-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decodable [hPre_decodable : Cert.Pre_decodable.Facts] (m : (ℓ : Loc Cert.KernelIdeal.nD Cert.KernelIdeal.τ Cert.KernelIdeal.sig) → Buf (Elt Ideal) ℓ) : Prop :=
  ∀ c : Dev Cert.KernelIdeal.nD,
    (Cert.Pre_decodable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decodable [hPre_decodable : Cert.Pre_decodable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decodable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_decodable [hKernelIdeal : Cert.KernelIdeal.Facts] [hPre_decodable : Cert.Pre_decodable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decodable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_decodable [hReferenceIdeal : Cert.ReferenceIdeal.Facts] [hPre_decodable : Cert.Pre_decodable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decodable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_decodable [hKernelIdeal : Cert.KernelIdeal.Facts] [hReferenceIdeal : Cert.ReferenceIdeal.Facts] [hPre_decodable : Cert.Pre_decodable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decodable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v41_0) = v1 c
          ∧ r.2.mem ((c.tc : Thread Cert.ReferenceIdeal.nD Cert.ReferenceIdeal.τ).loc Cert.ReferenceIdeal.main_v41_1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_decodable : Cert.Pre_decodable.Facts),
    quiescent_Kernel (hKernel := hKernel)
    ∧ quiescent_KernelIdeal (hKernelIdeal := hKernelIdeal)
    ∧ quiescent_KernelIdeal_pre_decodable (hKernelIdeal := hKernelIdeal) (hPre_decodable := hPre_decodable)
    ∧ quiescent_ReferenceIdeal (hReferenceIdeal := hReferenceIdeal)
    ∧ quiescent_ReferenceIdeal_pre_decodable (hReferenceIdeal := hReferenceIdeal) (hPre_decodable := hPre_decodable)
    ∧ preserves_Kernel_KernelIdeal
    ∧ algebraic_KernelIdeal_ReferenceIdeal_pre_decodable (hKernelIdeal := hKernelIdeal) (hReferenceIdeal := hReferenceIdeal) (hPre_decodable := hPre_decodable)
-- ==== Pre_decodable.lean ====
abbrev S64x1x4608 : Shape := ⟨3, ![64, 1, 4608]⟩
abbrev S8192x4608 : Shape := ⟨2, ![8192, 4608]⟩
abbrev S8192x144 : Shape := ⟨2, ![8192, 144]⟩
abbrev S8192 : Shape := ⟨1, ![8192]⟩
abbrev S_ : Shape := ⟨0, ![]⟩

class Facts : Prop where
  bcast_S_S8192x144 : S_.BroadcastsInDim S8192x144 (![] : Fin 0 → Fin S8192x144.rank)

variable [Facts]

def fn {F : FTy → Type} [FloatOps F] (main_arg0 : FVec F S64x1x4608 .bf16) (main_arg1 : FVec F S8192x4608 .fp8e4m3) (main_arg2 : IVec S8192x144 8) (main_arg3 : FVec F S8192 .f32) : IVec S8192x144 1 :=
  let main_c : IVec S_ 8 := constantI S_ 8 1#8
  let main_v0 : IVec S8192x144 8 := broadcastInDim S8192x144 ![] bcast_S_S8192x144 main_c
  let main_v1 : IVec S8192x144 1 := cmpi .uge main_arg2 main_v0
  let main_c_0 : IVec S_ 8 := constantI S_ 8 254#8
  let main_v2 : IVec S8192x144 8 := broadcastInDim S8192x144 ![] bcast_S_S8192x144 main_c_0
  let main_v3 : IVec S8192x144 1 := cmpi .ule main_arg2 main_v2
  let main_v4 : IVec S8192x144 1 := andi main_v1 main_v3
  main_v4
-- ==== Kernel.lean ====
abbrev S64x1x4608 : Shape := ⟨3, ![64, 1, 4608]⟩
abbrev S8192x4608 : Shape := ⟨2, ![8192, 4608]⟩
abbrev S8192x144 : Shape := ⟨2, ![8192, 144]⟩
abbrev S8192 : Shape := ⟨1, ![8192]⟩
abbrev S64x4608 : Shape := ⟨2, ![64, 4608]⟩
abbrev S1x8192 : Shape := ⟨2, ![1, 8192]⟩
abbrev S64x8192 : Shape := ⟨2, ![64, 8192]⟩
abbrev S64x144 : Shape := ⟨2, ![64, 144]⟩
abbrev S512x4608 : Shape := ⟨2, ![512, 4608]⟩
abbrev S512x144 : Shape := ⟨2, ![512, 144]⟩
abbrev S1x512 : Shape := ⟨2, ![1, 512]⟩
abbrev S64x512 : Shape := ⟨2, ![64, 512]⟩
abbrev S144x512 : Shape := ⟨2, ![144, 512]⟩
abbrev S4608x64 : Shape := ⟨2, ![4608, 64]⟩
abbrev S144x32x64 : Shape := ⟨3, ![144, 32, 64]⟩
abbrev S144x64 : Shape := ⟨2, ![144, 64]⟩
abbrev S144x1x64 : Shape := ⟨3, ![144, 1, 64]⟩
abbrev S512x256 : Shape := ⟨2, ![512, 256]⟩
abbrev S256x512 : Shape := ⟨2, ![256, 512]⟩
abbrev S8x2x16x512 : Shape := ⟨4, ![8, 2, 16, 512]⟩
abbrev S8x512 : Shape := ⟨2, ![8, 512]⟩
abbrev S16x512 : Shape := ⟨2, ![16, 512]⟩
abbrev S1x16x512 : Shape := ⟨3, ![1, 16, 512]⟩
abbrev S8x16x512 : Shape := ⟨3, ![8, 16, 512]⟩
abbrev S8x1x16x512 : Shape := ⟨4, ![8, 1, 16, 512]⟩
abbrev S64x256 : Shape := ⟨2, ![64, 256]⟩

abbrev nBuf : Space → Nat
  | .hbm => 9
  | .vmem => 13
  | .smem => 0
  | _ => 0

abbrev bufTy : (tb : Table) → Fin (tcTables nBuf tb) → BufTy
  | .hbm, ⟨0, _⟩ => ⟨S64x1x4608, .bf16⟩
  | .hbm, ⟨1, _⟩ => ⟨S8192x4608, .fp8e4m3⟩
  | .hbm, ⟨2, _⟩ => ⟨S8192x144, .i8⟩
  | .hbm, ⟨3, _⟩ => ⟨S8192, .f32⟩
  | .hbm, ⟨4, _⟩ => ⟨S64x4608, .bf16⟩
  | .hbm, ⟨5, _⟩ => ⟨S1x8192, .f32⟩
  | .hbm, ⟨6, _⟩ => ⟨S64x8192, .bf16⟩
  | .hbm, ⟨7, _⟩ => ⟨S64x4608, .fp8e4m3⟩
  | .hbm, ⟨8, _⟩ => ⟨S64x144, .i8⟩
  | .local _ .vmem, ⟨0, _⟩ => ⟨S64x4608, .bf16⟩
  | .local _ .vmem, ⟨1, _⟩ => ⟨S512x4608, .fp8e4m3⟩
  | .local _ .vmem, ⟨2, _⟩ => ⟨S512x4608, .fp8e4m3⟩
  | .local _ .vmem, ⟨3, _⟩ => ⟨S512x144, .i8⟩
  | .local _ .vmem, ⟨4, _⟩ => ⟨S512x144, .i8⟩
  | .local _ .vmem, ⟨5, _⟩ => ⟨S1x512, .f32⟩
  | .local _ .vmem, ⟨6, _⟩ => ⟨S1x512, .f32⟩
  | .local _ .vmem, ⟨7, _⟩ => ⟨S64x512, .bf16⟩
  | .local _ .vmem, ⟨8, _⟩ => ⟨S64x512, .bf16⟩
  | .local _ .vmem, ⟨9, _⟩ => ⟨S64x4608, .fp8e4m3⟩
  | .local _ .vmem, ⟨10, _⟩ => ⟨S64x144, .i8⟩
  | .local _ .vmem, ⟨11, _⟩ => ⟨S64x4608, .bf16⟩
  | .local _ .vmem, ⟨12, _⟩ => ⟨S144x512, .i32⟩
  | _, _ => ⟨S64x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4608 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x144 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x4608 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x144 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S64x1x4608 : Shape := ⟨3, ![64, 1, 4608]⟩
abbrev S8192x4608 : Shape := ⟨2, ![8192, 4608]⟩
abbrev S8192x144 : Shape := ⟨2, ![8192, 144]⟩
abbrev S8192 : Shape := ⟨1, ![8192]⟩
abbrev S64x4608 : Shape := ⟨2, ![64, 4608]⟩
abbrev S64x144x32 : Shape := ⟨3, ![64, 144, 32]⟩
abbrev S_ : Shape := ⟨0, ![]⟩
abbrev S64x144 : Shape := ⟨2, ![64, 144]⟩
abbrev S277 : Shape := ⟨1, ![277]⟩
abbrev S64x144x1 : Shape := ⟨3, ![64, 144, 1]⟩
abbrev S1x1x277 : Shape := ⟨3, ![1, 1, 277]⟩
abbrev S64x144x277 : Shape := ⟨3, ![64, 144, 277]⟩
abbrev S8192x144x32 : Shape := ⟨3, ![8192, 144, 32]⟩
abbrev S144x64x8192 : Shape := ⟨3, ![144, 64, 8192]⟩
abbrev S144x64 : Shape := ⟨2, ![144, 64]⟩
abbrev S144x64x1 : Shape := ⟨3, ![144, 64, 1]⟩
abbrev S144x8192 : Shape := ⟨2, ![144, 8192]⟩
abbrev S144x1x8192 : Shape := ⟨3, ![144, 1, 8192]⟩
abbrev S64x8192 : Shape := ⟨2, ![64, 8192]⟩
abbrev S1x8192 : Shape := ⟨2, ![1, 8192]⟩

abbrev nBuf : Space → Nat
  | .hbm => 112
  | .vmem => 7
  | .smem => 0
  | _ => 0

abbrev bufTy : (tb : Table) → Fin (tcTables nBuf tb) → BufTy
  | .hbm, ⟨0, _⟩ => ⟨S64x1x4608, .bf16⟩
  | .hbm, ⟨1, _⟩ => ⟨S8192x4608, .fp8e4m3⟩
  | .hbm, ⟨2, _⟩ => ⟨S8192x144, .i8⟩
  | .hbm, ⟨3, _⟩ => ⟨S8192, .f32⟩
  | .hbm, ⟨4, _⟩ => ⟨S64x1x4608, .f32⟩
  | .hbm, ⟨5, _⟩ => ⟨S64x4608, .f32⟩
  | .hbm, ⟨6, _⟩ => ⟨S64x144x32, .f32⟩
  | .hbm, ⟨7, _⟩ => ⟨S64x144x32, .f32⟩
  | .hbm, ⟨8, _⟩ => ⟨S_, .f32⟩
  | .hbm, ⟨9, _⟩ => ⟨S64x144, .f32⟩
  | .hbm, ⟨10, _⟩ => ⟨S_, .f32⟩
  | .hbm, ⟨11, _⟩ => ⟨S64x144, .f32⟩
  | .hbm, ⟨12, _⟩ => ⟨S64x144, .f32⟩
  | .hbm, ⟨13, _⟩ => ⟨S277, .i32⟩
  | .hbm, ⟨14, _⟩ => ⟨S_, .i32⟩
  | .hbm, ⟨15, _⟩ => ⟨S277, .i32⟩
  | .hbm, ⟨16, _⟩ => ⟨S277, .i32⟩
  | .hbm, ⟨17, _⟩ => ⟨S277, .f32⟩
  | .hbm, ⟨18, _⟩ => ⟨S_, .f32⟩
  | .hbm, ⟨19, _⟩ => ⟨S277, .f32⟩
  | .hbm, ⟨20, _⟩ => ⟨S277, .f32⟩
  | .hbm, ⟨21, _⟩ => ⟨S64x144x1, .f32⟩
  | .hbm, ⟨22, _⟩ => ⟨S1x1x277, .f32⟩
  | .hbm, ⟨23, _⟩ => ⟨S64x144x277, .f32⟩
  | .hbm, ⟨24, _⟩ => ⟨S64x144x277, .f32⟩
  | .hbm, ⟨25, _⟩ => ⟨S64x144x277, .i1⟩
  | .hbm, ⟨26, _⟩ => ⟨S64x144x277, .i32⟩
  | .hbm, ⟨27, _⟩ => ⟨S_, .i32⟩
  | .hbm, ⟨28, _⟩ => ⟨S64x144, .i32⟩
  | .hbm, ⟨29, _⟩ => ⟨S_, .i32⟩
  | .hbm, ⟨30, _⟩ => ⟨S64x144, .i32⟩
  | .hbm, ⟨31, _⟩ => ⟨S64x144, .i32⟩
  | .hbm, ⟨32, _⟩ => ⟨S_, .f32⟩
  | .hbm, ⟨33, _⟩ => ⟨S64x144, .f32⟩
  | .hbm, ⟨34, _⟩ => ⟨S64x144, .i1⟩
  | .hbm, ⟨35, _⟩ => ⟨S_, .f32⟩
  | .hbm, ⟨36, _⟩ => ⟨S64x144, .f32⟩
  | .hbm, ⟨37, _⟩ => ⟨S64x144, .i1⟩
  | .hbm, ⟨38, _⟩ => ⟨S64x144, .i1⟩
  | .hbm, ⟨39, _⟩ => ⟨S_, .i32⟩
  | .hbm, ⟨40, _⟩ => ⟨S_, .i32⟩
  | .hbm, ⟨41, _⟩ => ⟨S64x144, .i32⟩
  | .hbm, ⟨42, _⟩ => ⟨S64x144, .i32⟩
  | .hbm, ⟨43, _⟩ => ⟨S_, .f32⟩
  | .hbm, ⟨44, _⟩ => ⟨S64x144, .f32⟩
  | .hbm, ⟨45, _⟩ => ⟨S64x144, .i1⟩
  | .hbm, ⟨46, _⟩ => ⟨S_, .i32⟩
  | .hbm, ⟨47, _⟩ => ⟨S_, .i32⟩
  | .hbm, ⟨48, _⟩ => ⟨S64x144, .i32⟩
  | .hbm, ⟨49, _⟩ => ⟨S64x144, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S64x144, .i32⟩
  | .hbm, ⟨54, _⟩ => ⟨S64x144, .i32⟩
  | .hbm, ⟨55, _⟩ => ⟨S_, .i32⟩
  | .hbm, ⟨56, _⟩ => ⟨S64x144, .i32⟩
  | .hbm, ⟨57, _⟩ => ⟨S64x144, .i32⟩
  | .hbm, ⟨58, _⟩ => ⟨S64x144, .i32⟩
  | .hbm, ⟨59, _⟩ => ⟨S64x144, .f32⟩
  | .hbm, ⟨60, _⟩ => ⟨S_, .f32⟩
  | .hbm, ⟨61, _⟩ => ⟨S64x144, .f32⟩
  | .hbm, ⟨62, _⟩ => ⟨S64x144, .f32⟩
  | .hbm, ⟨63, _⟩ => ⟨S64x144x1, .f32⟩
  | .hbm, ⟨64, _⟩ => ⟨S64x144x32, .f32⟩
  | .hbm, ⟨65, _⟩ => ⟨S64x144x32, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S64x144x32, .f32⟩
  | .hbm, ⟨70, _⟩ => ⟨S64x144x32, .f32⟩
  | .hbm, ⟨71, _⟩ => ⟨S_, .f32⟩
  | .hbm, ⟨72, _⟩ => ⟨S64x144x32, .f32⟩
  | .hbm, ⟨73, _⟩ => ⟨S64x144x32, .f32⟩
  | .hbm, ⟨74, _⟩ => ⟨S64x4608, .f32⟩
  | .hbm, ⟨75, _⟩ => ⟨S64x4608, .fp8e4m3⟩
  | .hbm, ⟨76, _⟩ => ⟨S64x144, .i8⟩
  | .hbm, ⟨77, _⟩ => ⟨S64x4608, .f32⟩
  | .hbm, ⟨78, _⟩ => ⟨S8192x4608, .f32⟩
  | .hbm, ⟨79, _⟩ => ⟨S64x144x32, .f32⟩
  | .hbm, ⟨80, _⟩ => ⟨S8192x144x32, .f32⟩
  | .hbm, ⟨81, _⟩ => ⟨S144x64x8192, .f32⟩
  | .hbm, ⟨82, _⟩ => ⟨S64x144, .i32⟩
  | .hbm, ⟨83, _⟩ => ⟨S_, .i32⟩
  | .hbm, ⟨84, _⟩ => ⟨S64x144, .i32⟩
  | .hbm, ⟨85, _⟩ => ⟨S64x144, .i32⟩
  | .hbm, ⟨86, _⟩ => ⟨S64x144, .f32⟩
  | .hbm, ⟨87, _⟩ => ⟨S_, .f32⟩
  | .hbm, ⟨88, _⟩ => ⟨S64x144, .f32⟩
  | .hbm, ⟨89, _⟩ => ⟨S64x144, .f32⟩
  | .hbm, ⟨90, _⟩ => ⟨S144x64, .f32⟩
  | .hbm, ⟨91, _⟩ => ⟨S144x64x1, .f32⟩
  | .hbm, ⟨92, _⟩ => ⟨S8192x144, .i32⟩
  | .hbm, ⟨93, _⟩ => ⟨S_, .i32⟩
  | .hbm, ⟨94, _⟩ => ⟨S8192x144, .i32⟩
  | .hbm, ⟨95, _⟩ => ⟨S8192x144, .i32⟩
  | .hbm, ⟨96, _⟩ => ⟨S8192x144, .f32⟩
  | .hbm, ⟨97, _⟩ => ⟨S_, .f32⟩
  | .hbm, ⟨98, _⟩ => ⟨S8192x144, .f32⟩
  | .hbm, ⟨99, _⟩ => ⟨S8192x144, .f32⟩
  | .hbm, ⟨100, _⟩ => ⟨S144x8192, .f32⟩
  | .hbm, ⟨101, _⟩ => ⟨S144x1x8192, .f32⟩
  | .hbm, ⟨102, _⟩ => ⟨S144x64x8192, .f32⟩
  | .hbm, ⟨103, _⟩ => ⟨S144x64x8192, .f32⟩
  | .hbm, ⟨104, _⟩ => ⟨S144x64x8192, .f32⟩
  | .hbm, ⟨105, _⟩ => ⟨S144x64x8192, .f32⟩
  | .hbm, ⟨106, _⟩ => ⟨S_, .f32⟩
  | .hbm, ⟨107, _⟩ => ⟨S64x8192, .f32⟩
  | .hbm, ⟨108, _⟩ => ⟨S1x8192, .f32⟩
  | .hbm, ⟨109, _⟩ => ⟨S64x8192, .f32⟩
  | .hbm, ⟨110, _⟩ => ⟨S64x8192, .f32⟩
  | .hbm, ⟨111, _⟩ => ⟨S64x8192, .bf16⟩
  | .local _ .vmem, ⟨0, _⟩ => ⟨S64x4608, .f32⟩
  | .local _ .vmem, ⟨1, _⟩ => ⟨S64x144, .i32⟩
  | .local _ .vmem, ⟨2, _⟩ => ⟨S8192x4608, .fp8e4m3⟩
  | .local _ .vmem, ⟨3, _⟩ => ⟨S64x4608, .fp8e4m3⟩
  | .local _ .vmem, ⟨4, _⟩ => ⟨S64x144, .i8⟩
  | .local _ .vmem, ⟨5, _⟩ => ⟨S64x4608, .f32⟩
  | .local _ .vmem, ⟨6, _⟩ => ⟨S8192x4608, .f32⟩
  | _, _ => ⟨S64x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_call0_v0 : Ref sig .tc := ⟨.hbm, 40, rfl⟩
abbrev main_call0_v1 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_call1_v0 : Ref sig .tc := ⟨.hbm, 47, rfl⟩
abbrev main_call1_v1 : Ref sig .tc := ⟨.hbm, 48, rfl⟩
abbrev main_v30 : Ref sig .tc := ⟨.hbm, 49, rfl⟩
abbrev main_c_9 : Ref sig .tc := ⟨.hbm, 50, rfl⟩
abbrev main_c_10 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_11 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_12 : Ref sig .tc := ⟨.hbm, 66, rfl⟩
abbrev main_cst_13 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v39 : Ref sig .tc := ⟨.hbm, 73, rfl⟩
abbrev main_v40 : Ref sig .tc := ⟨.hbm, 74, rfl⟩
abbrev main_v41_0 : Ref sig .tc := ⟨.hbm, 75, rfl⟩
abbrev main_v41_1 : Ref sig .tc := ⟨.hbm, 76, rfl⟩
abbrev main_v41_2 : Ref sig .tc := ⟨.hbm, 77, rfl⟩
abbrev main_v41_3 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_c_14 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_15 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_c_16 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_17 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_18 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S64x4608 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x144 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x4608 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x144 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Chunk.lean ====
/- What one run of the kernel's body computes, written once for the eighteen chunks of 256 contraction
   positions that the printed body spells one after the other, and for the quantiser of its first run. -/
module

public import proofs.«01_k».proof.Proof.Gen.KernelIdeal.Skeleton
public import Idealize.ShloMosaic.Lib.Pipeline.FrameBody

@[expose] public section

noncomputable section

namespace Cert.KernelIdeal.Hand

open Cert.KernelIdeal Cert.KernelIdeal.Gen
open Idealize.ShloMosaic

variable {F : FTy → Type} [FloatOps F]

/-- One row of scale words as sixteen equal rows of bf16 scales. -/
def scRow (v : Vec F S1x512 .i32) : FVec F S1x16x512 .bf16 :=
  shapeCast S1x16x512 (bitcastToFloat .bf16 (bitcast S16x512 16
    (broadcastTo S8x512 (shapeCast S1x512 v shapeCasts_S1x512_S1x512 : IVec S1x512 32) broadcasts_S1x512_S8x512)
    bitcasts_S8x512_w32_S16x512_w16) : FVec F S16x512 .bf16) shapeCasts_S16x512_S1x16x512

/-- A chunk of the weight codes, contraction positions first, split into blocks of thirty-two, halves of sixteen. -/
def wTile (w : Vec F S512x256 .fp8e4m3) : FVec F S8x2x16x512 .bf16 :=
  shapeCast S8x2x16x512 (extf .bf16 (transpose S256x512 [1, 0] w transposes_S512x256_p1_0_S256x512)
    bitsLt_fp8e4m3_bf16 : FVec F S256x512 .bf16) shapeCasts_S256x512_S8x2x16x512

/-- The eight scale rows of a chunk, stacked. -/
def scTile (s0 s1 s2 s3 s4 s5 s6 s7 : Vec F S1x512 .i32) : FVec F S8x16x512 .bf16 :=
  concatenate S8x16x512 0 [⟨S1x16x512, scRow s0⟩, ⟨S1x16x512, scRow s1⟩, ⟨S1x16x512, scRow s2⟩,
    ⟨S1x16x512, scRow s3⟩, ⟨S1x16x512, scRow s4⟩, ⟨S1x16x512, scRow s5⟩, ⟨S1x16x512, scRow s6⟩,
    ⟨S1x16x512, scRow s7⟩]
    concatenates_S1x16x512_S1x16x512_S1x16x512_S1x16x512_S1x16x512_S1x16x512_S1x16x512_S1x16x512_S8x16x512_d0

/-- The scaled weights of a chunk, as the second operand of its product. -/
def wdTile (w : Vec F S512x256 .fp8e4m3) (s : FVec F S8x16x512 .bf16) : FVec F S256x512 .bf16 :=
  shapeCast S256x512 (mulf (wTile w) (broadcastTo S8x2x16x512
    (shapeCast S8x1x16x512 s shapeCasts_S8x16x512_S8x1x16x512) broadcasts_S8x1x16x512_S8x2x16x512))
    shapeCasts_S8x2x16x512_S256x512

/-- One chunk: its product added to the accumulator. -/
def chunk (acc : FVec F S64x512 .f32) (w : Vec F S512x256 .fp8e4m3) (s : FVec F S8x16x512 .bf16)
    (xd : Vec F S64x256 .bf16) : FVec F S64x512 .f32 :=
  addf acc (matmul dot_S64x256_S256x512_S64x512_1_0_0_1_n_n none xd (wdTile w s)
    (constant S64x512 .f32 0x00000000#32))

theorem inb_w (c : Nat) (hc : c < 18) : ∀ a, (![0, 256 * c] : Fin 2 → Nat) a + S512x256.size a ≤ S512x4608.size a := by
  intro a; match a with
  | 0 => exact Nat.le_refl _
  | 1 => show 256 * c + 256 ≤ 4608; omega

theorem inb_x (c : Nat) (hc : c < 18) : ∀ a, (![0, 256 * c] : Fin 2 → Nat) a + S64x256.size a ≤ S64x4608.size a := by
  intro a; match a with
  | 0 => exact Nat.le_refl _
  | 1 => show 256 * c + 256 ≤ 4608; omega

theorem inb_s (g : Nat) (hg : g < 144) : ∀ a, (![g, 0] : Fin 2 → Nat) a + S1x512.size a ≤ S144x512.size a := by
  intro a; match a with
  | 0 => show g + 1 ≤ 144; omega
  | 1 => exact Nat.le_refl _

/-- Row `g` of the scale words. -/
def stRow (st : Vec F S144x512 .i32) (g : Nat) (hg : g < 144) : Vec F S1x512 .i32 :=
  View.ld (Val := Elt F) (e' := .i32) st (Rect.unit ![g, 0] S1x512.size (inb_s g hg))

/-- Chunk `c` of a run over the whole weight block, scale words and dequantised activations. -/
def step (w : Vec F S512x4608 .fp8e4m3) (st : Vec F S144x512 .i32) (xd : Vec F S64x4608 .bf16)
    (c : Nat) (hc : c < 18) (acc : FVec F S64x512 .f32) : FVec F S64x512 .f32 :=
  chunk acc (View.ld (Val := Elt F) (e' := .fp8e4m3) w (Rect.unit ![0, 256 * c] S512x256.size (inb_w c hc)))
    (scTile (stRow st (8 * c) (by omega)) (stRow st (8 * c + 1) (by omega)) (stRow st (8 * c + 2) (by omega))
      (stRow st (8 * c + 3) (by omega)) (stRow st (8 * c + 4) (by omega)) (stRow st (8 * c + 5) (by omega))
      (stRow st (8 * c + 6) (by omega)) (stRow st (8 * c + 7) (by omega)))
    (View.ld (Val := Elt F) (e' := .bf16) xd (Rect.unit ![0, 256 * c] S64x256.size (inb_x c hc)))

/-- The accumulator after `n` chunks, from the broadcast bias. -/
def accN (w : Vec F S512x4608 .fp8e4m3) (st : Vec F S144x512 .i32) (xd : Vec F S64x4608 .bf16)
    (b : Vec F S1x512 .f32) : (n : Nat) → n ≤ 18 → FVec F S64x512 .f32
  | 0, _ => k0_pay20 b
  | n + 1, h => step w st xd n h (accN w st xd b n (Nat.le_of_succ_le h))

/-- The accumulator after all eighteen chunks, spelt out. -/
def acc18 (w : Vec F S512x4608 .fp8e4m3) (st : Vec F S144x512 .i32) (xd : Vec F S64x4608 .bf16)
    (b : Vec F S1x512 .f32) : FVec F S64x512 .f32 :=
    step w st xd 17 (by decide) <|
    step w st xd 16 (by decide) <|
    step w st xd 15 (by decide) <|
    step w st xd 14 (by decide) <|
    step w st xd 13 (by decide) <|
    step w st xd 12 (by decide) <|
    step w st xd 11 (by decide) <|
    step w st xd 10 (by decide) <|
    step w st xd 9 (by decide) <|
    step w st xd 8 (by decide) <|
    step w st xd 7 (by decide) <|
    step w st xd 6 (by decide) <|
    step w st xd 5 (by decide) <|
    step w st xd 4 (by decide) <|
    step w st xd 3 (by decide) <|
    step w st xd 2 (by decide) <|
    step w st xd 1 (by decide) <|
    step w st xd 0 (by decide) <|
    k0_pay20 b

theorem acc18_eq (w : Vec F S512x4608 .fp8e4m3) (st : Vec F S144x512 .i32) (xd : Vec F S64x4608 .bf16)
    (b : Vec F S1x512 .f32) : acc18 w st xd b = accN w st xd b 18 (Nat.le_refl _) := rfl

/-- The block of results one run stores. -/
def yOf (w : Vec F S512x4608 .fp8e4m3) (ws : Vec F S512x144 .i8) (xd : Vec F S64x4608 .bf16)
    (b : Vec F S1x512 .f32) : FVec F S64x512 .bf16 :=
  truncf .bf16 (acc18 w (k0_pay19 (F := F) ws) xd b) bitsLt_bf16_f32

/-- The exponent of each block of thirty-two activations, before the clip. -/
def e0Of (x : Vec F S64x4608 .bf16) : IVec S144x64 32 :=
  k0_pay11 (k0_pay3 x) (k0_pay4 x) (k0_pay6 x) (k0_pay7 x) (k0_pay8 x) (k0_pay9 x) (k0_pay10 x)

/-- The codes of the activations, scale exponents, and the dequantised activations kept in scratch. -/
def xcOf (x : Vec F S64x4608 .bf16) : FVec F S64x4608 .fp8e4m3 :=
  k0_pay16 (k0_pay13 (k0_pay2 x) (e0Of x) 4294967169#32)

@[inherit_doc xcOf] def xsOf (x : Vec F S64x4608 .bf16) : IVec S64x144 8 :=
  k0_pay18 (k0_pay12 (e0Of x) 4294967169#32)

@[inherit_doc xcOf] def xdOf (x : Vec F S64x4608 .bf16) : FVec F S64x4608 .bf16 :=
  k0_pay17 (k0_pay14 (k0_pay2 x) (e0Of x) 4294967169#32) (k0_pay15 (F := F) (e0Of x) 4294967169#32)

end Cert.KernelIdeal.Hand

end
-- ==== Proof.RunFirst.lean ====
/- The kernel's body run at the first point: it quantises the activations, keeps them dequantised in
   scratch, and computes its block of results from them. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Chunk
public import Idealize.ShloMosaic.Lib.Pipeline.FrameBody
public import Idealize.ShloMosaic.Lib.Pipeline.ValueKit.Basic
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body needs and leaves at the first point: the codes `xcOf`, the scales `xsOf`, the dequantised
    activations `xdOf` in scratch, and the block of results `yOf` from those. -/
theorem run_first (c : Dev nD) (i : grid0.Coords) (arg1 : Memref sig .tc .vmem S64x4608 .bf16) (harg1 : arg1.IsWhole) (arg2 : Memref sig .tc .vmem S512x4608 .fp8e4m3) (harg2 : arg2.IsWhole) (arg3 : Memref sig .tc .vmem S512x144 .i8) (harg3 : arg3.IsWhole) (arg4 : Memref sig .tc .vmem S1x512 .f32) (harg4 : arg4.IsWhole) (arg5 : Memref sig .tc .vmem S64x512 .bf16) (harg5 : arg5.IsWhole) (arg6 : Memref sig .tc .vmem S64x4608 .fp8e4m3) (harg6 : arg6.IsWhole) (arg7 : Memref sig .tc .vmem S64x144 .i8) (harg7 : arg7.IsWhole) (arg8 : Memref sig .tc .vmem S64x4608 .bf16) (harg8 : arg8.IsWhole) (arg9 : Memref sig .tc .vmem S144x512 .i32) (harg9 : arg9.IsWhole) (hc0 : k0_cond1 i = 1#1)
    (x0 : Vec F S64x4608 .bf16)
    (x1 : Vec F S512x4608 .fp8e4m3) (x2 : Vec F S512x144 .i8) (x3 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (yOf x1 x2 (xdOf x0) x3) ∗ owns (c : Thread nD τ) arg6 fullShare (xcOf x0) ∗ owns (c : Thread nD τ) arg7 fullShare (xsOf (F := F) x0) ∗ owns (c : Thread nD τ) arg8 fullShare (xdOf x0) ∗ (∃ d, owns (c : Thread nD τ) arg9 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9) K := by
    intro E K
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    subst hf0 hf1 hf2 hf3
    sl_exec (disch := first | sl_exact hc0)
    sl_step
    iapply Hk
    isplitl [H0]
    · iexists _; isplitr; · ipureintro; rfl
      · iexact H0
    isplitl [H1]
    · iexists _; isplitr; · ipureintro; rfl
      · iexact H1
    isplitl [H2]
    · iexists _; isplitr; · ipureintro; rfl
      · iexact H2
    isplitl [H3]
    · iexists _; isplitr; · ipureintro; rfl
      · iexact H3
    isplitl [H4]
    · iexists _; isplitr
      swap
      · iexact H4
      · ipureintro
        refine (View.read_writes_eq_canon _ _ _ fun y => View.cover_of_tiled _ S64x512.size (by rfl) y).trans ?_
        refine (View.canon_cons_unit_lit (S := S64x512) (off := ![0, 0]) _ _ [] (fun a => match a with | 0 => rfl | 1 => rfl)).trans ?_
        have hst : ∀ (Z : Vec F S144x512 .i32) (o : Fin 2 → ℕ) (h : ∀ a, o a + S1x512.size a ≤ S144x512.size a)
            (h' : ∀ a, (![0, 0] : Fin 2 → ℕ) a + S144x512.size a ≤ S144x512.size a),
            arg9.view.readCov (Val := Elt F) [⟨Rect.unit (s := S144x512) ![0, 0] ![144, 512] h', Z⟩] (Rect.unit (s := S144x512) o ![1, 512] h).toLoadRect
              = View.ld (Val := Elt F) (e' := .i32) Z (Rect.unit o S1x512.size h) := fun Z o h h' =>
          View.readCov_fill (s := S144x512) (off := ![0, 0]) arg9.view h' Z [] _ (fun a => match a with | 0 => rfl | 1 => rfl)
        have hw : ∀ (h : ∀ a, (![0, 0] : Fin 2 → ℕ) a + S512x144.size a ≤ S512x144.size a),
            View.readAt (Elt F) arg3.view (Rect.unit (s := S512x144) ![0, 0] ![512, 144] h).toLoadRect f2 = arg3.view.read (Elt F) f2 := fun h =>
          View.ld_unit_lit (S := S512x144) (off := ![0, 0]) h _ (fun a => match a with | 0 => rfl | 1 => rfl)
        have hb : ∀ (h : ∀ a, (![0, 0] : Fin 2 → ℕ) a + S1x512.size a ≤ S1x512.size a),
            View.readAt (Elt F) arg4.view (Rect.unit (s := S1x512) ![0, 0] ![1, 512] h).toLoadRect f3 = arg4.view.read (Elt F) f3 := fun h =>
          View.ld_unit_lit (S := S1x512) (off := ![0, 0]) h _ (fun a => match a with | 0 => rfl | 1 => rfl)
        have hx : ∀ (h : ∀ a, (![0, 0] : Fin 2 → ℕ) a + S64x4608.size a ≤ S64x4608.size a),
            View.readAt (Elt F) arg1.view (Rect.unit (s := S64x4608) ![0, 0] ![64, 4608] h).toLoadRect f0 = arg1.view.read (Elt F) f0 := fun h =>
          View.ld_unit_lit (S := S64x4608) (off := ![0, 0]) h _ (fun a => match a with | 0 => rfl | 1 => rfl)
        have hd : ∀ (Z : Vec F S64x4608 .bf16) (o : Fin 2 → ℕ) (h : ∀ a, o a + S64x256.size a ≤ S64x4608.size a)
            (h' : ∀ a, (![0, 0] : Fin 2 → ℕ) a + S64x4608.size a ≤ S64x4608.size a),
            arg8.view.readCov (Val := Elt F) [⟨Rect.unit (s := S64x4608) ![0, 0] ![64, 4608] h', Z⟩] (Rect.unit (s := S64x4608) o ![64, 256] h).toLoadRect
              = View.ld (Val := Elt F) (e' := .bf16) Z (Rect.unit o S64x256.size h) := fun Z o h h' =>
          View.readCov_fill (s := S64x4608) (off := ![0, 0]) arg8.view h' Z [] _ (fun a => match a with | 0 => rfl | 1 => rfl)
        sl_unfold_words

        simp only [hst, hw, hb, hx, hd]
        dsimp only [k0_pay1, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133]
        dsimp only [yOf, acc18, step, chunk, wdTile, scTile, scRow, wTile, stRow, Nat.reduceMul, Nat.reduceAdd]
        rfl
    isplitl [H5]
    · iexists _; isplitr
      swap
      · iexact H5
      · ipureintro
        refine (View.read_writes_eq_canon _ _ _ fun y => View.cover_of_tiled _ S64x4608.size (by rfl) y).trans ?_
        refine (View.canon_cons_unit_lit (S := S64x4608) (off := ![0, 0]) _ _ [] (fun a => match a with | 0 => rfl | 1 => rfl)).trans ?_
        have hx : ∀ (h : ∀ a, (![0, 0] : Fin 2 → ℕ) a + S64x4608.size a ≤ S64x4608.size a),
            View.readAt (Elt F) arg1.view (Rect.unit (s := S64x4608) ![0, 0] ![64, 4608] h).toLoadRect f0 = arg1.view.read (Elt F) f0 := fun h =>
          View.ld_unit_lit (S := S64x4608) (off := ![0, 0]) h _ (fun a => match a with | 0 => rfl | 1 => rfl)
        sl_unfold_words
        simp only [hx]
        rfl
    isplitl [H6]
    · iexists _; isplitr
      swap
      · iexact H6
      · ipureintro
        refine (View.read_writes_eq_canon _ _ _ fun y => View.cover_of_tiled _ S64x144.size (by rfl) y).trans ?_
        refine (View.canon_cons_unit_lit (S := S64x144) (off := ![0, 0]) _ _ [] (fun a => match a with | 0 => rfl | 1 => rfl)).trans ?_
        have hx : ∀ (h : ∀ a, (![0, 0] : Fin 2 → ℕ) a + S64x4608.size a ≤ S64x4608.size a),
            View.readAt (Elt F) arg1.view (Rect.unit (s := S64x4608) ![0, 0] ![64, 4608] h).toLoadRect f0 = arg1.view.read (Elt F) f0 := fun h =>
          View.ld_unit_lit (S := S64x4608) (off := ![0, 0]) h _ (fun a => match a with | 0 => rfl | 1 => rfl)
        sl_unfold_words
        simp only [hx]
        rfl
    isplitl [HS0]
    · iexists _; isplitr
      swap
      · iexact HS0
      · ipureintro
        refine (View.read_writes_eq_canon _ _ _ fun y => View.cover_of_tiled _ S64x4608.size (by rfl) y).trans ?_
        refine (View.canon_cons_unit_lit (S := S64x4608) (off := ![0, 0]) _ _ [] (fun a => match a with | 0 => rfl | 1 => rfl)).trans ?_
        have hx : ∀ (h : ∀ a, (![0, 0] : Fin 2 → ℕ) a + S64x4608.size a ≤ S64x4608.size a),
            View.readAt (Elt F) arg1.view (Rect.unit (s := S64x4608) ![0, 0] ![64, 4608] h).toLoadRect f0 = arg1.view.read (Elt F) f0 := fun h =>
          View.ld_unit_lit (S := S64x4608) (off := ![0, 0]) h _ (fun a => match a with | 0 => rfl | 1 => rfl)
        sl_unfold_words
        simp only [hx]
        rfl
    · iexists _; iexists _; isplitr
      swap
      · iexact HS1
      · ipureintro; rfl

end Cert.KernelIdeal.Hand

end
-- ==== Proof.RunLater.lean ====
/- The kernel's body run at a point after the first: the dequantised activations are already in scratch, so it
   computes its block of results from them. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Chunk
public import Idealize.ShloMosaic.Lib.Pipeline.FrameBody
public import Idealize.ShloMosaic.Lib.Pipeline.ValueKit.Basic
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body needs and leaves at a point after the first: the block of results is `yOf`, nothing else of
    use changes. The accumulator's words are the skeleton's payloads, chunk by chunk. -/
theorem run_later (c : Dev nD) (i : grid0.Coords) (arg1 : Memref sig .tc .vmem S64x4608 .bf16) (harg1 : arg1.IsWhole) (arg2 : Memref sig .tc .vmem S512x4608 .fp8e4m3) (harg2 : arg2.IsWhole) (arg3 : Memref sig .tc .vmem S512x144 .i8) (harg3 : arg3.IsWhole) (arg4 : Memref sig .tc .vmem S1x512 .f32) (harg4 : arg4.IsWhole) (arg5 : Memref sig .tc .vmem S64x512 .bf16) (harg5 : arg5.IsWhole) (arg6 : Memref sig .tc .vmem S64x4608 .fp8e4m3) (harg6 : arg6.IsWhole) (arg7 : Memref sig .tc .vmem S64x144 .i8) (harg7 : arg7.IsWhole) (arg8 : Memref sig .tc .vmem S64x4608 .bf16) (harg8 : arg8.IsWhole) (arg9 : Memref sig .tc .vmem S144x512 .i32) (harg9 : arg9.IsWhole) (hc0 : ¬ k0_cond1 i = 1#1)
    (x1 : Vec F S512x4608 .fp8e4m3) (x2 : Vec F S512x144 .i8) (x3 : Vec F S1x512 .f32) (xd : Vec F S64x4608 .bf16) :
      ∀ (E : Set ℕ) (K : PUnit → sProp 𝕄),
        iprop(owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg8 fullShare xd ∗ (∃ d, owns (c : Thread nD τ) arg9 fullShare d)
            ∗ (iprop(owns (c : Thread nD τ) arg2 fullShare x1 ∗ owns (c : Thread nD τ) arg3 fullShare x2 ∗ owns (c : Thread nD τ) arg4 fullShare x3 ∗ owns (c : Thread nD τ) arg5 fullShare (yOf x1 x2 xd x3) ∗ owns (c : Thread nD τ) arg8 fullShare xd ∗ (∃ d, owns (c : Thread nD τ) arg9 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9) K := by
    intro E K
    simp only [cc0__body_eq_skeleton]; unfold cc0__body_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f1, %hf1, H1⟩, ⟨%f2, %hf2, H2⟩, ⟨%f3, %hf3, H3⟩, ⟨%d4, %f4, -, H4⟩, ⟨%fs0, %hfs0, HS0⟩, ⟨%ds1, %fs1, -, HS1⟩, Hk⟩
    subst hf1 hf2 hf3 hfs0
    sl_exec (disch := first | sl_exact hc0)
    sl_step
    iapply Hk
    isplitl [H1]
    · iexists _; isplitr; · ipureintro; rfl
      · iexact H1
    isplitl [H2]
    · iexists _; isplitr; · ipureintro; rfl
      · iexact H2
    isplitl [H3]
    · iexists _; isplitr; · ipureintro; rfl
      · iexact H3
    isplitl [H4]
    · iexists _; isplitr
      swap
      · iexact H4
      · ipureintro
        refine (View.read_writes_eq_canon _ _ _ fun y => View.cover_of_tiled _ S64x512.size (by rfl) y).trans ?_
        refine (View.canon_cons_unit_lit (S := S64x512) (off := ![0, 0]) _ _ [] (fun a => match a with | 0 => rfl | 1 => rfl)).trans ?_
        have hst : ∀ (Z : Vec F S144x512 .i32) (o : Fin 2 → ℕ) (h : ∀ a, o a + S1x512.size a ≤ S144x512.size a)
            (h' : ∀ a, (![0, 0] : Fin 2 → ℕ) a + S144x512.size a ≤ S144x512.size a),
            arg9.view.readCov (Val := Elt F) [⟨Rect.unit (s := S144x512) ![0, 0] ![144, 512] h', Z⟩] (Rect.unit (s := S144x512) o ![1, 512] h).toLoadRect
              = View.ld (Val := Elt F) (e' := .i32) Z (Rect.unit o S1x512.size h) := fun Z o h h' =>
          View.readCov_fill (s := S144x512) (off := ![0, 0]) arg9.view h' Z [] _ (fun a => match a with | 0 => rfl | 1 => rfl)
        have hw : ∀ (h : ∀ a, (![0, 0] : Fin 2 → ℕ) a + S512x144.size a ≤ S512x144.size a),
            View.readAt (Elt F) arg3.view (Rect.unit (s := S512x144) ![0, 0] ![512, 144] h).toLoadRect f2 = arg3.view.read (Elt F) f2 := fun h =>
          View.ld_unit_lit (S := S512x144) (off := ![0, 0]) h _ (fun a => match a with | 0 => rfl | 1 => rfl)
        have hb : ∀ (h : ∀ a, (![0, 0] : Fin 2 → ℕ) a + S1x512.size a ≤ S1x512.size a),
            View.readAt (Elt F) arg4.view (Rect.unit (s := S1x512) ![0, 0] ![1, 512] h).toLoadRect f3 = arg4.view.read (Elt F) f3 := fun h =>
          View.ld_unit_lit (S := S1x512) (off := ![0, 0]) h _ (fun a => match a with | 0 => rfl | 1 => rfl)
        sl_unfold_words

        simp only [hst, hw, hb]
        dsimp only [k0_pay1, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133]
        dsimp only [yOf, acc18, step, chunk, wdTile, scTile, scRow, wTile, stRow, Nat.reduceMul, Nat.reduceAdd]
        rfl
    isplitl [HS0]
    · iexists _; isplitr; · ipureintro; rfl
      · iexact HS0
    · iexists _; iexists _; isplitr
      swap
      · iexact HS1
      · ipureintro; rfl

end Cert.KernelIdeal.Hand

end
-- ==== Proof.Hand.lean ====
/- The kernel's proof data and run: what every window and the scratch hold point by point, the body's triple at a
   generic point, the run of the whole program, and its frame. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.RunFirst
public import proofs.«01_k».proof.Proof.RunLater
public import Idealize.ShloMosaic.Lib.Claim
public import Idealize.ShloMosaic.Lib.Pipeline.FrameBody
public import Idealize.ShloMosaic.Lib.Pipeline.ValueKit.Basic
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch, and the operands of the body at a point -/

/-- The quantiser runs at the first point only. -/
theorem hcond (t : Fin cfg0.N) : k0_cond1 (grid0.coords t) = 1#1 ↔ t.val = 0 := by
  have ht : t.val < 16 := Nat.lt_of_lt_of_eq t.isLt N_0
  have e0 : (grid0.coords t 0).val = t.val / 1 % 16 := Pipeline.Grid.coords_val t 0 (by decide) rfl
  have h : k0_cond1 (grid0.coords t) = 1#1 ↔ t.val % 16 = 0 := by
    simp only [k0_cond1, e0]
    word_cmp
  rw [h]; omega

abbrev ms0 (t : Fin cfg0.N) : Memref sig .tc .vmem S64x4608 .bf16 := win0_0.stage (cfg0.slots t 0)
abbrev ms1 (t : Fin cfg0.N) : Memref sig .tc .vmem S512x4608 .fp8e4m3 := win0_1.stage (cfg0.slots t 1)
abbrev ms2 (t : Fin cfg0.N) : Memref sig .tc .vmem S512x144 .i8 := win0_2.stage (cfg0.slots t 2)
abbrev ms3 (t : Fin cfg0.N) : Memref sig .tc .vmem S1x512 .f32 := win0_3.stage (cfg0.slots t 3)
abbrev ms4 (t : Fin cfg0.N) : Memref sig .tc .vmem S64x512 .bf16 := win0_4.stage (cfg0.slots t 4)
abbrev ms5 (t : Fin cfg0.N) : Memref sig .tc .vmem S64x4608 .fp8e4m3 := win0_5.stage (cfg0.slots t 5)
abbrev ms6 (t : Fin cfg0.N) : Memref sig .tc .vmem S64x144 .i8 := win0_6.stage (cfg0.slots t 6)
/-- The scratch: the dequantised activations, and the scale words of a point. -/
abbrev scM0 : Memref sig .tc .vmem S64x4608 .bf16 := Memref.whole cc0_scratch0
@[inherit_doc scM0] abbrev scM1 : Memref sig .tc .vmem S144x512 .i32 := Memref.whole cc0_scratch1

/-- The scratch and the generator register, at any contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The proof data -/

/-- The activations, as the first point finds them. -/
abbrev xin (c : Dev nD) : Vec F S64x4608 .bf16 := iblk m c 0 t0_0

/-- What the scratch holds before point `n`: anything before the first, then the dequantised activations. -/
def PhiAt (c : Dev nD) : ℕ → sProp 𝕄
  | 0 => Pipeline.ΦA spec0 c
  | _ + 1 => iprop(iprop(owns (c : Thread nD τ) scM0 fullShare (xdOf (xin m c)) ∗ (∃ d, owns (c : Thread nD τ) scM1 fullShare d)) ∗ (∃ r, prngReg c r))

/-- The block of results of point `t`. -/
def yAt (c : Dev nD) (t : Fin cfg0.N) : FVec F S64x512 .bf16 :=
  yOf (iblk m c 1 t) (iblk m c 2 t) (xdOf (xin m c)) (iblk m c 3 t)

/-- Each window after the body at a point: the inputs as found, the block of results, and, from the first point
    on, the codes and the scales of the activations. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yAt m c t
    | ⟨5, _⟩ => xcOf (xin m c)
    | ⟨6, _⟩ => xsOf (F := F) (xin m c)
  Φ t := PhiAt m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = yAt m c t := by dsimp only [dats]
theorem after5 (c : Dev nD) (t : Fin cfg0.N) : (dats m 0 c).after 5 t = xcOf (xin m c) := by dsimp only [dats]
theorem after6 (c : Dev nD) (t : Fin cfg0.N) : (dats m 0 c).after 6 t = xsOf (F := F) (xin m c) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The two results written once: idle after the first point -/

theorem idle_first (t : Fin cfg0.N) (h : t.val = 0) : (!(k0_cond1 (grid0.coords t) == 1#1)) = false := by
  rw [(hcond t).mpr h]; rfl
theorem idle_later (t : Fin cfg0.N) (h : t.val ≠ 0) : (!(k0_cond1 (grid0.coords t) == 1#1)) = true := by
  have : ¬ k0_cond1 (grid0.coords t) = 1#1 := fun h' => h ((hcond t).mp h')
  simp [this]

theorem flush5_early (t : Fin cfg0.N) (h : t.val < 15) : (cfg0.win 5).flush t = false :=
  Bool.eq_false_iff.mpr fun h' => by have := (flush0_5 t).mp h'; omega
theorem flush5_last (t : Fin cfg0.N) (h : t.val = 15) : (cfg0.win 5).flush t = true :=
  (flush0_5 t).mpr (by omega)

/-- After the first point the buffer still holds what the first point stored. -/
theorem before5 (c : Dev nD) : ∀ (n : ℕ) (h : n < cfg0.N) (d), n ≠ 0 → (dats m 0 c).before 5 ⟨n, h⟩ d = xcOf (xin m c)
  | 0, _, _, h0 => absurd rfl h0
  | n + 1, h, d, _ => by
    have hN : n + 1 < 16 := Nat.lt_of_lt_of_eq h N_0
    have hn : n < cfg0.N := Nat.lt_of_succ_lt h
    rw [Dat.before_of_pos _ 5 ⟨n + 1, h⟩ (Nat.succ_ne_zero n) rfl d]
    have e : (⟨(⟨n + 1, h⟩ : Fin cfg0.N).val - 1, Nat.lt_of_le_of_lt (Nat.sub_le _ _) (⟨n + 1, h⟩ : Fin cfg0.N).isLt⟩ : Fin cfg0.N) = ⟨n, hn⟩ := rfl
    rw [e, flush5_early ⟨n, hn⟩ (by show n < 15; omega), if_neg Bool.false_ne_true]
    unfold Dat.left
    by_cases h0 : n = 0
    · rw [show cfg0.idle 5 (cfg0.grid.coords ⟨n, hn⟩) = false from idle_first ⟨n, hn⟩ h0]
      exact after5 m c ⟨n, hn⟩
    · rw [show cfg0.idle 5 (cfg0.grid.coords ⟨n, hn⟩) = true from idle_later ⟨n, hn⟩ h0]
      exact before5 c n hn d h0

/-- At a point that stores nothing there the buffer is handed back as found; written back, it holds the result. -/
theorem leaves5 (c : Dev nD) (t : Fin cfg0.N) (h0 : t.val ≠ 0) :
    (iprop(∃ d, owns (c : Thread nD τ) (ms5 t) fullShare ((dats m 0 c).before 5 t d)) : sProp 𝕄) ⊢ (dats m 0 c).leavesExact 5 t := by
  have hN : t.val < 16 := Nat.lt_of_lt_of_eq t.isLt N_0
  by_cases hf : t.val = 15
  · rw [show (dats m 0 c).leavesExact 5 t = owns (c : Thread nD τ) (ms5 t) fullShare ((dats m 0 c).after 5 t) from by
      unfold Dat.leavesExact
      rw [show cfg0.idle 5 (cfg0.grid.coords t) = true from idle_later t h0, flush5_last t hf], after5]
    iintro ⟨%d, H⟩
    rw [before5 m c t.val t.isLt d h0]
    iexact H
  · rw [Dat.leavesExact_idle _ 5 t (show cfg0.idle 5 (cfg0.grid.coords t) = true from idle_later t h0) (flush5_early t (by omega))]

theorem flush6_early (t : Fin cfg0.N) (h : t.val < 15) : (cfg0.win 6).flush t = false :=
  Bool.eq_false_iff.mpr fun h' => by have := (flush0_6 t).mp h'; omega
theorem flush6_last (t : Fin cfg0.N) (h : t.val = 15) : (cfg0.win 6).flush t = true :=
  (flush0_6 t).mpr (by omega)

/-- After the first point the buffer still holds what the first point stored. -/
theorem before6 (c : Dev nD) : ∀ (n : ℕ) (h : n < cfg0.N) (d), n ≠ 0 → (dats m 0 c).before 6 ⟨n, h⟩ d = xsOf (F := F) (xin m c)
  | 0, _, _, h0 => absurd rfl h0
  | n + 1, h, d, _ => by
    have hN : n + 1 < 16 := Nat.lt_of_lt_of_eq h N_0
    have hn : n < cfg0.N := Nat.lt_of_succ_lt h
    rw [Dat.before_of_pos _ 6 ⟨n + 1, h⟩ (Nat.succ_ne_zero n) rfl d]
    have e : (⟨(⟨n + 1, h⟩ : Fin cfg0.N).val - 1, Nat.lt_of_le_of_lt (Nat.sub_le _ _) (⟨n + 1, h⟩ : Fin cfg0.N).isLt⟩ : Fin cfg0.N) = ⟨n, hn⟩ := rfl
    rw [e, flush6_early ⟨n, hn⟩ (by show n < 15; omega), if_neg Bool.false_ne_true]
    unfold Dat.left
    by_cases h0 : n = 0
    · rw [show cfg0.idle 6 (cfg0.grid.coords ⟨n, hn⟩) = false from idle_first ⟨n, hn⟩ h0]
      exact after6 m c ⟨n, hn⟩
    · rw [show cfg0.idle 6 (cfg0.grid.coords ⟨n, hn⟩) = true from idle_later ⟨n, hn⟩ h0]
      exact before6 c n hn d h0

/-- At a point that stores nothing there the buffer is handed back as found; written back, it holds the result. -/
theorem leaves6 (c : Dev nD) (t : Fin cfg0.N) (h0 : t.val ≠ 0) :
    (iprop(∃ d, owns (c : Thread nD τ) (ms6 t) fullShare ((dats m 0 c).before 6 t d)) : sProp 𝕄) ⊢ (dats m 0 c).leavesExact 6 t := by
  have hN : t.val < 16 := Nat.lt_of_lt_of_eq t.isLt N_0
  by_cases hf : t.val = 15
  · rw [show (dats m 0 c).leavesExact 6 t = owns (c : Thread nD τ) (ms6 t) fullShare ((dats m 0 c).after 6 t) from by
      unfold Dat.leavesExact
      rw [show cfg0.idle 6 (cfg0.grid.coords t) = true from idle_later t h0, flush6_last t hf], after6]
    iintro ⟨%d, H⟩
    rw [before6 m c t.val t.isLt d h0]
    iexact H
  · rw [Dat.leavesExact_idle _ 6 t (show cfg0.idle 6 (cfg0.grid.coords t) = true from idle_later t h0) (flush6_early t (by omega))]

theorem leaves_live0 (c : Dev nD) (t : Fin cfg0.N) : (dats m 0 c).leavesExact 0 t = owns (c : Thread nD τ) (ms0 t) fullShare ((dats m 0 c).after 0 t) := by
  unfold Dat.leavesExact; rw [show cfg0.idle 0 (cfg0.grid.coords t) = false from rfl]
theorem leaves_live1 (c : Dev nD) (t : Fin cfg0.N) : (dats m 0 c).leavesExact 1 t = owns (c : Thread nD τ) (ms1 t) fullShare ((dats m 0 c).after 1 t) := by
  unfold Dat.leavesExact; rw [show cfg0.idle 1 (cfg0.grid.coords t) = false from rfl]
theorem leaves_live2 (c : Dev nD) (t : Fin cfg0.N) : (dats m 0 c).leavesExact 2 t = owns (c : Thread nD τ) (ms2 t) fullShare ((dats m 0 c).after 2 t) := by
  unfold Dat.leavesExact; rw [show cfg0.idle 2 (cfg0.grid.coords t) = false from rfl]
theorem leaves_live3 (c : Dev nD) (t : Fin cfg0.N) : (dats m 0 c).leavesExact 3 t = owns (c : Thread nD τ) (ms3 t) fullShare ((dats m 0 c).after 3 t) := by
  unfold Dat.leavesExact; rw [show cfg0.idle 3 (cfg0.grid.coords t) = false from rfl]
theorem leaves_live4 (c : Dev nD) (t : Fin cfg0.N) : (dats m 0 c).leavesExact 4 t = owns (c : Thread nD τ) (ms4 t) fullShare ((dats m 0 c).after 4 t) := by
  unfold Dat.leavesExact; rw [show cfg0.idle 4 (cfg0.grid.coords t) = false from rfl]
theorem leaves_first5 (c : Dev nD) (t : Fin cfg0.N) (h : t.val = 0) : (dats m 0 c).leavesExact 5 t = owns (c : Thread nD τ) (ms5 t) fullShare ((dats m 0 c).after 5 t) := by
  unfold Dat.leavesExact; rw [show cfg0.idle 5 (cfg0.grid.coords t) = false from idle_first t h]
theorem leaves_first6 (c : Dev nD) (t : Fin cfg0.N) (h : t.val = 0) : (dats m 0 c).leavesExact 6 t = owns (c : Thread nD τ) (ms6 t) fullShare ((dats m 0 c).after 6 t) := by
  unfold Dat.leavesExact; rw [show cfg0.idle 6 (cfg0.grid.coords t) = false from idle_first t h]

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [leaves_live0, leaves_live1, leaves_live2, leaves_live3, leaves_live4, after0, after1, after2, after3, after4]
  rw [show (dats m 0 c).Φ t.succ = iprop(iprop(owns (c : Thread nD τ) scM0 fullShare (xdOf (xin m c)) ∗ (∃ d, owns (c : Thread nD τ) scM1 fullShare d)) ∗ (∃ r, prngReg c r)) from rfl]
  by_cases h0 : t.val = 0
  · obtain rfl : t = t0_0 := Fin.ext h0
    rw [show (dats m 0 c).Φ t0_0.castSucc = Pipeline.ΦA spec0 c from rfl, PhiA0_eq]
    rw [leaves_first5 m c _ h0, leaves_first6 m c _ h0, after5, after6]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((run_first c (grid0.coords t0_0) _ _ _ _ _ _ _ _ _ _ _ _ _ _ _ _ _ _ ((hcond t0_0).mpr h0) (iblk m c 0 t0_0) (iblk m c 1 t0_0) (iblk m c 2 t0_0) (iblk m c 3 t0_0)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).Φ t.castSucc = iprop(iprop(owns (c : Thread nD τ) scM0 fullShare (xdOf (xin m c)) ∗ (∃ d, owns (c : Thread nD τ) scM1 fullShare d)) ∗ (∃ r, prngReg c r)) from by
      show PhiAt m c t.val = _
      obtain ⟨n, hn⟩ := Nat.exists_eq_succ_of_ne_zero h0
      rw [hn]; rfl]
    iintro ⟨⟨⟨HS0, HS1⟩, Hg⟩, Ho, ⟨%d0, H0⟩, ⟨%d1, H1⟩, ⟨%d2, H2⟩, ⟨%d3, H3⟩, ⟨%d4, H4⟩, H5, H6⟩
    iapply ((run_later c (grid0.coords t) (ms0 t) _ _ _ _ _ _ _ _ _ (ms5 t) _ (ms6 t) _ _ _ _ _ (fun h => h0 ((hcond t).mp h)) (iblk m c 1 t) (iblk m c 2 t) (iblk m c 3 t) (xdOf (xin m c))) Set.univ _)
    isplitl [H1]; · iexact H1
    isplitl [H2]; · iexact H2
    isplitl [H3]; · iexact H3
    isplitl [H4]; · iexists _; iexact H4
    isplitl [HS0]; · iexact HS0
    isplitl [HS1]; · iexact HS1
    iintro ⟨H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves5 m c t h0); iexact H5
    iapply (leaves6 m c t h0); iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The invariant after the last point forgets to the one the region began with. -/
theorem Phi_out (c : Dev nD) : (dats (F := F) m 0 c).Φ (Fin.last cfg0.N) ⊢ (Pipeline.ΦA spec0 c : sProp 𝕄) := by
  have h : (dats (F := F) m 0 c).Φ (Fin.last cfg0.N) = iprop(iprop(owns (c : Thread nD τ) scM0 fullShare (xdOf (xin m c)) ∗ (∃ d, owns (c : Thread nD τ) scM1 fullShare d)) ∗ (∃ r, prngReg c r)) := by
    show PhiAt m c cfg0.N = _
    rw [show cfg0.N = 16 from N_0]; rfl
  rw [h, PhiA0_eq]
  iintro ⟨⟨HS0, HS1⟩, Hg⟩
  isplitl [HS0 HS1]
  · isplitl [HS0]
    · iexists _; iexact HS0
    iexact HS1
  iexact Hg

set_option backward.isDefEq.respectTransparency.types false in
/-- Every execution ends with the arrays the proof data names, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := Phi_out m) (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Printed.Chunk.lean ====
/- (For the program as printed; the modules one level up say the same of its ideal form.) What one run of the kernel's body computes, written once for the eighteen chunks of 256 contraction
   positions that the printed body spells one after the other, and for the quantiser of its first run. -/
module

public import proofs.«01_k».proof.Proof.Gen.Kernel.Skeleton
public import Idealize.ShloMosaic.Lib.Pipeline.FrameBody

@[expose] public section

noncomputable section

namespace Cert.Kernel.Hand

open Cert.Kernel Cert.Kernel.Gen
open Idealize.ShloMosaic

variable {F : FTy → Type} [FloatOps F]

/-- One row of scale words as sixteen equal rows of bf16 scales. -/
def scRow (v : Vec F S1x512 .i32) : FVec F S1x16x512 .bf16 :=
  shapeCast S1x16x512 (bitcastToFloat .bf16 (bitcast S16x512 16
    (broadcastTo S8x512 (shapeCast S1x512 v shapeCasts_S1x512_S1x512 : IVec S1x512 32) broadcasts_S1x512_S8x512)
    bitcasts_S8x512_w32_S16x512_w16) : FVec F S16x512 .bf16) shapeCasts_S16x512_S1x16x512

/-- A chunk of the weight codes, contraction positions first, split into blocks of thirty-two, halves of sixteen. -/
def wTile (w : Vec F S512x256 .fp8e4m3) : FVec F S8x2x16x512 .bf16 :=
  shapeCast S8x2x16x512 (extf .bf16 (transpose S256x512 [1, 0] w transposes_S512x256_p1_0_S256x512)
    bitsLt_fp8e4m3_bf16 : FVec F S256x512 .bf16) shapeCasts_S256x512_S8x2x16x512

/-- The eight scale rows of a chunk, stacked. -/
def scTile (s0 s1 s2 s3 s4 s5 s6 s7 : Vec F S1x512 .i32) : FVec F S8x16x512 .bf16 :=
  concatenate S8x16x512 0 [⟨S1x16x512, scRow s0⟩, ⟨S1x16x512, scRow s1⟩, ⟨S1x16x512, scRow s2⟩,
    ⟨S1x16x512, scRow s3⟩, ⟨S1x16x512, scRow s4⟩, ⟨S1x16x512, scRow s5⟩, ⟨S1x16x512, scRow s6⟩,
    ⟨S1x16x512, scRow s7⟩]
    concatenates_S1x16x512_S1x16x512_S1x16x512_S1x16x512_S1x16x512_S1x16x512_S1x16x512_S1x16x512_S8x16x512_d0

/-- The scaled weights of a chunk, as the second operand of its product. -/
def wdTile (w : Vec F S512x256 .fp8e4m3) (s : FVec F S8x16x512 .bf16) : FVec F S256x512 .bf16 :=
  shapeCast S256x512 (mulf (wTile w) (broadcastTo S8x2x16x512
    (shapeCast S8x1x16x512 s shapeCasts_S8x16x512_S8x1x16x512) broadcasts_S8x1x16x512_S8x2x16x512))
    shapeCasts_S8x2x16x512_S256x512

/-- One chunk: its product added to the accumulator. -/
def chunk (acc : FVec F S64x512 .f32) (w : Vec F S512x256 .fp8e4m3) (s : FVec F S8x16x512 .bf16)
    (xd : Vec F S64x256 .bf16) : FVec F S64x512 .f32 :=
  addf acc (matmul dot_S64x256_S256x512_S64x512_1_0_0_1_n_n none xd (wdTile w s)
    (constant S64x512 .f32 0x00000000#32))

theorem inb_w (c : Nat) (hc : c < 18) : ∀ a, (![0, 256 * c] : Fin 2 → Nat) a + S512x256.size a ≤ S512x4608.size a := by
  intro a; match a with
  | 0 => exact Nat.le_refl _
  | 1 => show 256 * c + 256 ≤ 4608; omega

theorem inb_x (c : Nat) (hc : c < 18) : ∀ a, (![0, 256 * c] : Fin 2 → Nat) a + S64x256.size a ≤ S64x4608.size a := by
  intro a; match a with
  | 0 => exact Nat.le_refl _
  | 1 => show 256 * c + 256 ≤ 4608; omega

theorem inb_s (g : Nat) (hg : g < 144) : ∀ a, (![g, 0] : Fin 2 → Nat) a + S1x512.size a ≤ S144x512.size a := by
  intro a; match a with
  | 0 => show g + 1 ≤ 144; omega
  | 1 => exact Nat.le_refl _

/-- Row `g` of the scale words. -/
def stRow (st : Vec F S144x512 .i32) (g : Nat) (hg : g < 144) : Vec F S1x512 .i32 :=
  View.ld (Val := Elt F) (e' := .i32) st (Rect.unit ![g, 0] S1x512.size (inb_s g hg))

/-- Chunk `c` of a run over the whole weight block, scale words and dequantised activations. -/
def step (w : Vec F S512x4608 .fp8e4m3) (st : Vec F S144x512 .i32) (xd : Vec F S64x4608 .bf16)
    (c : Nat) (hc : c < 18) (acc : FVec F S64x512 .f32) : FVec F S64x512 .f32 :=
  chunk acc (View.ld (Val := Elt F) (e' := .fp8e4m3) w (Rect.unit ![0, 256 * c] S512x256.size (inb_w c hc)))
    (scTile (stRow st (8 * c) (by omega)) (stRow st (8 * c + 1) (by omega)) (stRow st (8 * c + 2) (by omega))
      (stRow st (8 * c + 3) (by omega)) (stRow st (8 * c + 4) (by omega)) (stRow st (8 * c + 5) (by omega))
      (stRow st (8 * c + 6) (by omega)) (stRow st (8 * c + 7) (by omega)))
    (View.ld (Val := Elt F) (e' := .bf16) xd (Rect.unit ![0, 256 * c] S64x256.size (inb_x c hc)))

/-- The accumulator after `n` chunks, from the broadcast bias. -/
def accN (w : Vec F S512x4608 .fp8e4m3) (st : Vec F S144x512 .i32) (xd : Vec F S64x4608 .bf16)
    (b : Vec F S1x512 .f32) : (n : Nat) → n ≤ 18 → FVec F S64x512 .f32
  | 0, _ => k0_pay20 b
  | n + 1, h => step w st xd n h (accN w st xd b n (Nat.le_of_succ_le h))

/-- The accumulator after all eighteen chunks, spelt out. -/
def acc18 (w : Vec F S512x4608 .fp8e4m3) (st : Vec F S144x512 .i32) (xd : Vec F S64x4608 .bf16)
    (b : Vec F S1x512 .f32) : FVec F S64x512 .f32 :=
    step w st xd 17 (by decide) <|
    step w st xd 16 (by decide) <|
    step w st xd 15 (by decide) <|
    step w st xd 14 (by decide) <|
    step w st xd 13 (by decide) <|
    step w st xd 12 (by decide) <|
    step w st xd 11 (by decide) <|
    step w st xd 10 (by decide) <|
    step w st xd 9 (by decide) <|
    step w st xd 8 (by decide) <|
    step w st xd 7 (by decide) <|
    step w st xd 6 (by decide) <|
    step w st xd 5 (by decide) <|
    step w st xd 4 (by decide) <|
    step w st xd 3 (by decide) <|
    step w st xd 2 (by decide) <|
    step w st xd 1 (by decide) <|
    step w st xd 0 (by decide) <|
    k0_pay20 b

theorem acc18_eq (w : Vec F S512x4608 .fp8e4m3) (st : Vec F S144x512 .i32) (xd : Vec F S64x4608 .bf16)
    (b : Vec F S1x512 .f32) : acc18 w st xd b = accN w st xd b 18 (Nat.le_refl _) := rfl

/-- The block of results one run stores. -/
def yOf (w : Vec F S512x4608 .fp8e4m3) (ws : Vec F S512x144 .i8) (xd : Vec F S64x4608 .bf16)
    (b : Vec F S1x512 .f32) : FVec F S64x512 .bf16 :=
  truncf .bf16 (acc18 w (k0_pay19 (F := F) ws) xd b) bitsLt_bf16_f32

/-- The exponent of each block of thirty-two activations, before the clip. -/
def e0Of (x : Vec F S64x4608 .bf16) : IVec S144x64 32 :=
  k0_pay11 (k0_pay3 x) (k0_pay4 x) (k0_pay6 x) (k0_pay7 x) (k0_pay8 x) (k0_pay9 x) (k0_pay10 x)

/-- The codes of the activations, scale exponents, and the dequantised activations kept in scratch. -/
def xcOf (x : Vec F S64x4608 .bf16) : FVec F S64x4608 .fp8e4m3 :=
  k0_pay16 (k0_pay13 (k0_pay2 x) (e0Of x) 4294967169#32)

@[inherit_doc xcOf] def xsOf (x : Vec F S64x4608 .bf16) : IVec S64x144 8 :=
  k0_pay18 (k0_pay12 (e0Of x) 4294967169#32)

@[inherit_doc xcOf] def xdOf (x : Vec F S64x4608 .bf16) : FVec F S64x4608 .bf16 :=
  k0_pay17 (k0_pay14 (k0_pay2 x) (e0Of x) 4294967169#32) (k0_pay15 (F := F) (e0Of x) 4294967169#32)

end Cert.Kernel.Hand

end
-- ==== Proof.Printed.RunFirst.lean ====
/- (For the program as printed; the modules one level up say the same of its ideal form.) The kernel's body run at the first point: it quantises the activations, keeps them dequantised in
   scratch, and computes its block of results from them. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Printed.Chunk
public import Idealize.ShloMosaic.Lib.Pipeline.FrameBody
public import Idealize.ShloMosaic.Lib.Pipeline.ValueKit.Basic
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body needs and leaves at the first point: the codes `xcOf`, the scales `xsOf`, the dequantised
    activations `xdOf` in scratch, and the block of results `yOf` from those. -/
theorem run_first (c : Dev nD) (i : grid0.Coords) (arg1 : Memref sig .tc .vmem S64x4608 .bf16) (harg1 : arg1.IsWhole) (arg2 : Memref sig .tc .vmem S512x4608 .fp8e4m3) (harg2 : arg2.IsWhole) (arg3 : Memref sig .tc .vmem S512x144 .i8) (harg3 : arg3.IsWhole) (arg4 : Memref sig .tc .vmem S1x512 .f32) (harg4 : arg4.IsWhole) (arg5 : Memref sig .tc .vmem S64x512 .bf16) (harg5 : arg5.IsWhole) (arg6 : Memref sig .tc .vmem S64x4608 .fp8e4m3) (harg6 : arg6.IsWhole) (arg7 : Memref sig .tc .vmem S64x144 .i8) (harg7 : arg7.IsWhole) (arg8 : Memref sig .tc .vmem S64x4608 .bf16) (harg8 : arg8.IsWhole) (arg9 : Memref sig .tc .vmem S144x512 .i32) (harg9 : arg9.IsWhole) (hc0 : k0_cond1 i = 1#1)
    (x0 : Vec F S64x4608 .bf16)
    (x1 : Vec F S512x4608 .fp8e4m3) (x2 : Vec F S512x144 .i8) (x3 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (yOf x1 x2 (xdOf x0) x3) ∗ owns (c : Thread nD τ) arg6 fullShare (xcOf x0) ∗ owns (c : Thread nD τ) arg7 fullShare (xsOf (F := F) x0) ∗ owns (c : Thread nD τ) arg8 fullShare (xdOf x0) ∗ (∃ d, owns (c : Thread nD τ) arg9 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9) K := by
    intro E K
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    subst hf0 hf1 hf2 hf3
    sl_exec (disch := first | sl_exact hc0)
    sl_step
    iapply Hk
    isplitl [H0]
    · iexists _; isplitr; · ipureintro; rfl
      · iexact H0
    isplitl [H1]
    · iexists _; isplitr; · ipureintro; rfl
      · iexact H1
    isplitl [H2]
    · iexists _; isplitr; · ipureintro; rfl
      · iexact H2
    isplitl [H3]
    · iexists _; isplitr; · ipureintro; rfl
      · iexact H3
    isplitl [H4]
    · iexists _; isplitr
      swap
      · iexact H4
      · ipureintro
        refine (View.read_writes_eq_canon _ _ _ fun y => View.cover_of_tiled _ S64x512.size (by rfl) y).trans ?_
        refine (View.canon_cons_unit_lit (S := S64x512) (off := ![0, 0]) _ _ [] (fun a => match a with | 0 => rfl | 1 => rfl)).trans ?_
        have hst : ∀ (Z : Vec F S144x512 .i32) (o : Fin 2 → ℕ) (h : ∀ a, o a + S1x512.size a ≤ S144x512.size a)
            (h' : ∀ a, (![0, 0] : Fin 2 → ℕ) a + S144x512.size a ≤ S144x512.size a),
            arg9.view.readCov (Val := Elt F) [⟨Rect.unit (s := S144x512) ![0, 0] ![144, 512] h', Z⟩] (Rect.unit (s := S144x512) o ![1, 512] h).toLoadRect
              = View.ld (Val := Elt F) (e' := .i32) Z (Rect.unit o S1x512.size h) := fun Z o h h' =>
          View.readCov_fill (s := S144x512) (off := ![0, 0]) arg9.view h' Z [] _ (fun a => match a with | 0 => rfl | 1 => rfl)
        have hw : ∀ (h : ∀ a, (![0, 0] : Fin 2 → ℕ) a + S512x144.size a ≤ S512x144.size a),
            View.readAt (Elt F) arg3.view (Rect.unit (s := S512x144) ![0, 0] ![512, 144] h).toLoadRect f2 = arg3.view.read (Elt F) f2 := fun h =>
          View.ld_unit_lit (S := S512x144) (off := ![0, 0]) h _ (fun a => match a with | 0 => rfl | 1 => rfl)
        have hb : ∀ (h : ∀ a, (![0, 0] : Fin 2 → ℕ) a + S1x512.size a ≤ S1x512.size a),
            View.readAt (Elt F) arg4.view (Rect.unit (s := S1x512) ![0, 0] ![1, 512] h).toLoadRect f3 = arg4.view.read (Elt F) f3 := fun h =>
          View.ld_unit_lit (S := S1x512) (off := ![0, 0]) h _ (fun a => match a with | 0 => rfl | 1 => rfl)
        have hx : ∀ (h : ∀ a, (![0, 0] : Fin 2 → ℕ) a + S64x4608.size a ≤ S64x4608.size a),
            View.readAt (Elt F) arg1.view (Rect.unit (s := S64x4608) ![0, 0] ![64, 4608] h).toLoadRect f0 = arg1.view.read (Elt F) f0 := fun h =>
          View.ld_unit_lit (S := S64x4608) (off := ![0, 0]) h _ (fun a => match a with | 0 => rfl | 1 => rfl)
        have hd : ∀ (Z : Vec F S64x4608 .bf16) (o : Fin 2 → ℕ) (h : ∀ a, o a + S64x256.size a ≤ S64x4608.size a)
            (h' : ∀ a, (![0, 0] : Fin 2 → ℕ) a + S64x4608.size a ≤ S64x4608.size a),
            arg8.view.readCov (Val := Elt F) [⟨Rect.unit (s := S64x4608) ![0, 0] ![64, 4608] h', Z⟩] (Rect.unit (s := S64x4608) o ![64, 256] h).toLoadRect
              = View.ld (Val := Elt F) (e' := .bf16) Z (Rect.unit o S64x256.size h) := fun Z o h h' =>
          View.readCov_fill (s := S64x4608) (off := ![0, 0]) arg8.view h' Z [] _ (fun a => match a with | 0 => rfl | 1 => rfl)
        sl_unfold_words

        simp only [hst, hw, hb, hx, hd]
        dsimp only [k0_pay1, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133]
        dsimp only [yOf, acc18, step, chunk, wdTile, scTile, scRow, wTile, stRow, Nat.reduceMul, Nat.reduceAdd]
        rfl
    isplitl [H5]
    · iexists _; isplitr
      swap
      · iexact H5
      · ipureintro
        refine (View.read_writes_eq_canon _ _ _ fun y => View.cover_of_tiled _ S64x4608.size (by rfl) y).trans ?_
        refine (View.canon_cons_unit_lit (S := S64x4608) (off := ![0, 0]) _ _ [] (fun a => match a with | 0 => rfl | 1 => rfl)).trans ?_
        have hx : ∀ (h : ∀ a, (![0, 0] : Fin 2 → ℕ) a + S64x4608.size a ≤ S64x4608.size a),
            View.readAt (Elt F) arg1.view (Rect.unit (s := S64x4608) ![0, 0] ![64, 4608] h).toLoadRect f0 = arg1.view.read (Elt F) f0 := fun h =>
          View.ld_unit_lit (S := S64x4608) (off := ![0, 0]) h _ (fun a => match a with | 0 => rfl | 1 => rfl)
        sl_unfold_words
        simp only [hx]
        rfl
    isplitl [H6]
    · iexists _; isplitr
      swap
      · iexact H6
      · ipureintro
        refine (View.read_writes_eq_canon _ _ _ fun y => View.cover_of_tiled _ S64x144.size (by rfl) y).trans ?_
        refine (View.canon_cons_unit_lit (S := S64x144) (off := ![0, 0]) _ _ [] (fun a => match a with | 0 => rfl | 1 => rfl)).trans ?_
        have hx : ∀ (h : ∀ a, (![0, 0] : Fin 2 → ℕ) a + S64x4608.size a ≤ S64x4608.size a),
            View.readAt (Elt F) arg1.view (Rect.unit (s := S64x4608) ![0, 0] ![64, 4608] h).toLoadRect f0 = arg1.view.read (Elt F) f0 := fun h =>
          View.ld_unit_lit (S := S64x4608) (off := ![0, 0]) h _ (fun a => match a with | 0 => rfl | 1 => rfl)
        sl_unfold_words
        simp only [hx]
        rfl
    isplitl [HS0]
    · iexists _; isplitr
      swap
      · iexact HS0
      · ipureintro
        refine (View.read_writes_eq_canon _ _ _ fun y => View.cover_of_tiled _ S64x4608.size (by rfl) y).trans ?_
        refine (View.canon_cons_unit_lit (S := S64x4608) (off := ![0, 0]) _ _ [] (fun a => match a with | 0 => rfl | 1 => rfl)).trans ?_
        have hx : ∀ (h : ∀ a, (![0, 0] : Fin 2 → ℕ) a + S64x4608.size a ≤ S64x4608.size a),
            View.readAt (Elt F) arg1.view (Rect.unit (s := S64x4608) ![0, 0] ![64, 4608] h).toLoadRect f0 = arg1.view.read (Elt F) f0 := fun h =>
          View.ld_unit_lit (S := S64x4608) (off := ![0, 0]) h _ (fun a => match a with | 0 => rfl | 1 => rfl)
        sl_unfold_words
        simp only [hx]
        rfl
    · iexists _; iexists _; isplitr
      swap
      · iexact HS1
      · ipureintro; rfl

end Cert.Kernel.Hand

end
-- ==== Proof.Printed.RunLater.lean ====
/- (For the program as printed; the modules one level up say the same of its ideal form.) The kernel's body run at a point after the first: the dequantised activations are already in scratch, so it
   computes its block of results from them. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Printed.Chunk
public import Idealize.ShloMosaic.Lib.Pipeline.FrameBody
public import Idealize.ShloMosaic.Lib.Pipeline.ValueKit.Basic
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body needs and leaves at a point after the first: the block of results is `yOf`, nothing else of
    use changes. The accumulator's words are the skeleton's payloads, chunk by chunk. -/
theorem run_later (c : Dev nD) (i : grid0.Coords) (arg1 : Memref sig .tc .vmem S64x4608 .bf16) (harg1 : arg1.IsWhole) (arg2 : Memref sig .tc .vmem S512x4608 .fp8e4m3) (harg2 : arg2.IsWhole) (arg3 : Memref sig .tc .vmem S512x144 .i8) (harg3 : arg3.IsWhole) (arg4 : Memref sig .tc .vmem S1x512 .f32) (harg4 : arg4.IsWhole) (arg5 : Memref sig .tc .vmem S64x512 .bf16) (harg5 : arg5.IsWhole) (arg6 : Memref sig .tc .vmem S64x4608 .fp8e4m3) (harg6 : arg6.IsWhole) (arg7 : Memref sig .tc .vmem S64x144 .i8) (harg7 : arg7.IsWhole) (arg8 : Memref sig .tc .vmem S64x4608 .bf16) (harg8 : arg8.IsWhole) (arg9 : Memref sig .tc .vmem S144x512 .i32) (harg9 : arg9.IsWhole) (hc0 : ¬ k0_cond1 i = 1#1)
    (x1 : Vec F S512x4608 .fp8e4m3) (x2 : Vec F S512x144 .i8) (x3 : Vec F S1x512 .f32) (xd : Vec F S64x4608 .bf16) :
      ∀ (E : Set ℕ) (K : PUnit → sProp 𝕄),
        iprop(owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg8 fullShare xd ∗ (∃ d, owns (c : Thread nD τ) arg9 fullShare d)
            ∗ (iprop(owns (c : Thread nD τ) arg2 fullShare x1 ∗ owns (c : Thread nD τ) arg3 fullShare x2 ∗ owns (c : Thread nD τ) arg4 fullShare x3 ∗ owns (c : Thread nD τ) arg5 fullShare (yOf x1 x2 xd x3) ∗ owns (c : Thread nD τ) arg8 fullShare xd ∗ (∃ d, owns (c : Thread nD τ) arg9 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9) K := by
    intro E K
    simp only [cc0__body_eq_skeleton]; unfold cc0__body_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f1, %hf1, H1⟩, ⟨%f2, %hf2, H2⟩, ⟨%f3, %hf3, H3⟩, ⟨%d4, %f4, -, H4⟩, ⟨%fs0, %hfs0, HS0⟩, ⟨%ds1, %fs1, -, HS1⟩, Hk⟩
    subst hf1 hf2 hf3 hfs0
    sl_exec (disch := first | sl_exact hc0)
    sl_step
    iapply Hk
    isplitl [H1]
    · iexists _; isplitr; · ipureintro; rfl
      · iexact H1
    isplitl [H2]
    · iexists _; isplitr; · ipureintro; rfl
      · iexact H2
    isplitl [H3]
    · iexists _; isplitr; · ipureintro; rfl
      · iexact H3
    isplitl [H4]
    · iexists _; isplitr
      swap
      · iexact H4
      · ipureintro
        refine (View.read_writes_eq_canon _ _ _ fun y => View.cover_of_tiled _ S64x512.size (by rfl) y).trans ?_
        refine (View.canon_cons_unit_lit (S := S64x512) (off := ![0, 0]) _ _ [] (fun a => match a with | 0 => rfl | 1 => rfl)).trans ?_
        have hst : ∀ (Z : Vec F S144x512 .i32) (o : Fin 2 → ℕ) (h : ∀ a, o a + S1x512.size a ≤ S144x512.size a)
            (h' : ∀ a, (![0, 0] : Fin 2 → ℕ) a + S144x512.size a ≤ S144x512.size a),
            arg9.view.readCov (Val := Elt F) [⟨Rect.unit (s := S144x512) ![0, 0] ![144, 512] h', Z⟩] (Rect.unit (s := S144x512) o ![1, 512] h).toLoadRect
              = View.ld (Val := Elt F) (e' := .i32) Z (Rect.unit o S1x512.size h) := fun Z o h h' =>
          View.readCov_fill (s := S144x512) (off := ![0, 0]) arg9.view h' Z [] _ (fun a => match a with | 0 => rfl | 1 => rfl)
        have hw : ∀ (h : ∀ a, (![0, 0] : Fin 2 → ℕ) a + S512x144.size a ≤ S512x144.size a),
            View.readAt (Elt F) arg3.view (Rect.unit (s := S512x144) ![0, 0] ![512, 144] h).toLoadRect f2 = arg3.view.read (Elt F) f2 := fun h =>
          View.ld_unit_lit (S := S512x144) (off := ![0, 0]) h _ (fun a => match a with | 0 => rfl | 1 => rfl)
        have hb : ∀ (h : ∀ a, (![0, 0] : Fin 2 → ℕ) a + S1x512.size a ≤ S1x512.size a),
            View.readAt (Elt F) arg4.view (Rect.unit (s := S1x512) ![0, 0] ![1, 512] h).toLoadRect f3 = arg4.view.read (Elt F) f3 := fun h =>
          View.ld_unit_lit (S := S1x512) (off := ![0, 0]) h _ (fun a => match a with | 0 => rfl | 1 => rfl)
        sl_unfold_words

        simp only [hst, hw, hb]
        dsimp only [k0_pay1, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133]
        dsimp only [yOf, acc18, step, chunk, wdTile, scTile, scRow, wTile, stRow, Nat.reduceMul, Nat.reduceAdd]
        rfl
    isplitl [HS0]
    · iexists _; isplitr; · ipureintro; rfl
      · iexact HS0
    · iexists _; iexists _; isplitr
      swap
      · iexact HS1
      · ipureintro; rfl

end Cert.Kernel.Hand

end
-- ==== Proof.Printed.Hand.lean ====
/- (For the program as printed; the modules one level up say the same of its ideal form.) The kernel's proof data and run: what every window and the scratch hold point by point, the body's triple at a
   generic point, the run of the whole program, and its frame. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Printed.RunFirst
public import proofs.«01_k».proof.Proof.Printed.RunLater
public import Idealize.ShloMosaic.Lib.Claim
public import Idealize.ShloMosaic.Lib.Pipeline.FrameBody
public import Idealize.ShloMosaic.Lib.Pipeline.ValueKit.Basic
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch, and the operands of the body at a point -/

/-- The quantiser runs at the first point only. -/
theorem hcond (t : Fin cfg0.N) : k0_cond1 (grid0.coords t) = 1#1 ↔ t.val = 0 := by
  have ht : t.val < 16 := Nat.lt_of_lt_of_eq t.isLt N_0
  have e0 : (grid0.coords t 0).val = t.val / 1 % 16 := Pipeline.Grid.coords_val t 0 (by decide) rfl
  have h : k0_cond1 (grid0.coords t) = 1#1 ↔ t.val % 16 = 0 := by
    simp only [k0_cond1, e0]
    word_cmp
  rw [h]; omega

abbrev ms0 (t : Fin cfg0.N) : Memref sig .tc .vmem S64x4608 .bf16 := win0_0.stage (cfg0.slots t 0)
abbrev ms1 (t : Fin cfg0.N) : Memref sig .tc .vmem S512x4608 .fp8e4m3 := win0_1.stage (cfg0.slots t 1)
abbrev ms2 (t : Fin cfg0.N) : Memref sig .tc .vmem S512x144 .i8 := win0_2.stage (cfg0.slots t 2)
abbrev ms3 (t : Fin cfg0.N) : Memref sig .tc .vmem S1x512 .f32 := win0_3.stage (cfg0.slots t 3)
abbrev ms4 (t : Fin cfg0.N) : Memref sig .tc .vmem S64x512 .bf16 := win0_4.stage (cfg0.slots t 4)
abbrev ms5 (t : Fin cfg0.N) : Memref sig .tc .vmem S64x4608 .fp8e4m3 := win0_5.stage (cfg0.slots t 5)
abbrev ms6 (t : Fin cfg0.N) : Memref sig .tc .vmem S64x144 .i8 := win0_6.stage (cfg0.slots t 6)
/-- The scratch: the dequantised activations, and the scale words of a point. -/
abbrev scM0 : Memref sig .tc .vmem S64x4608 .bf16 := Memref.whole cc0_scratch0
@[inherit_doc scM0] abbrev scM1 : Memref sig .tc .vmem S144x512 .i32 := Memref.whole cc0_scratch1

/-- The scratch and the generator register, at any contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The proof data -/

/-- The activations, as the first point finds them. -/
abbrev xin (c : Dev nD) : Vec F S64x4608 .bf16 := iblk m c 0 t0_0

/-- What the scratch holds before point `n`: anything before the first, then the dequantised activations. -/
def PhiAt (c : Dev nD) : ℕ → sProp 𝕄
  | 0 => Pipeline.ΦA spec0 c
  | _ + 1 => iprop(iprop(owns (c : Thread nD τ) scM0 fullShare (xdOf (xin m c)) ∗ (∃ d, owns (c : Thread nD τ) scM1 fullShare d)) ∗ (∃ r, prngReg c r))

/-- The block of results of point `t`. -/
def yAt (c : Dev nD) (t : Fin cfg0.N) : FVec F S64x512 .bf16 :=
  yOf (iblk m c 1 t) (iblk m c 2 t) (xdOf (xin m c)) (iblk m c 3 t)

/-- Each window after the body at a point: the inputs as found, the block of results, and, from the first point
    on, the codes and the scales of the activations. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yAt m c t
    | ⟨5, _⟩ => xcOf (xin m c)
    | ⟨6, _⟩ => xsOf (F := F) (xin m c)
  Φ t := PhiAt m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = yAt m c t := by dsimp only [dats]
theorem after5 (c : Dev nD) (t : Fin cfg0.N) : (dats m 0 c).after 5 t = xcOf (xin m c) := by dsimp only [dats]
theorem after6 (c : Dev nD) (t : Fin cfg0.N) : (dats m 0 c).after 6 t = xsOf (F := F) (xin m c) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The two results written once: idle after the first point -/

theorem idle_first (t : Fin cfg0.N) (h : t.val = 0) : (!(k0_cond1 (grid0.coords t) == 1#1)) = false := by
  rw [(hcond t).mpr h]; rfl
theorem idle_later (t : Fin cfg0.N) (h : t.val ≠ 0) : (!(k0_cond1 (grid0.coords t) == 1#1)) = true := by
  have : ¬ k0_cond1 (grid0.coords t) = 1#1 := fun h' => h ((hcond t).mp h')
  simp [this]

theorem flush5_early (t : Fin cfg0.N) (h : t.val < 15) : (cfg0.win 5).flush t = false :=
  Bool.eq_false_iff.mpr fun h' => by have := (flush0_5 t).mp h'; omega
theorem flush5_last (t : Fin cfg0.N) (h : t.val = 15) : (cfg0.win 5).flush t = true :=
  (flush0_5 t).mpr (by omega)

/-- After the first point the buffer still holds what the first point stored. -/
theorem before5 (c : Dev nD) : ∀ (n : ℕ) (h : n < cfg0.N) (d), n ≠ 0 → (dats m 0 c).before 5 ⟨n, h⟩ d = xcOf (xin m c)
  | 0, _, _, h0 => absurd rfl h0
  | n + 1, h, d, _ => by
    have hN : n + 1 < 16 := Nat.lt_of_lt_of_eq h N_0
    have hn : n < cfg0.N := Nat.lt_of_succ_lt h
    rw [Dat.before_of_pos _ 5 ⟨n + 1, h⟩ (Nat.succ_ne_zero n) rfl d]
    have e : (⟨(⟨n + 1, h⟩ : Fin cfg0.N).val - 1, Nat.lt_of_le_of_lt (Nat.sub_le _ _) (⟨n + 1, h⟩ : Fin cfg0.N).isLt⟩ : Fin cfg0.N) = ⟨n, hn⟩ := rfl
    rw [e, flush5_early ⟨n, hn⟩ (by show n < 15; omega), if_neg Bool.false_ne_true]
    unfold Dat.left
    by_cases h0 : n = 0
    · rw [show cfg0.idle 5 (cfg0.grid.coords ⟨n, hn⟩) = false from idle_first ⟨n, hn⟩ h0]
      exact after5 m c ⟨n, hn⟩
    · rw [show cfg0.idle 5 (cfg0.grid.coords ⟨n, hn⟩) = true from idle_later ⟨n, hn⟩ h0]
      exact before5 c n hn d h0

/-- At a point that stores nothing there the buffer is handed back as found; written back, it holds the result. -/
theorem leaves5 (c : Dev nD) (t : Fin cfg0.N) (h0 : t.val ≠ 0) :
    (iprop(∃ d, owns (c : Thread nD τ) (ms5 t) fullShare ((dats m 0 c).before 5 t d)) : sProp 𝕄) ⊢ (dats m 0 c).leavesExact 5 t := by
  have hN : t.val < 16 := Nat.lt_of_lt_of_eq t.isLt N_0
  by_cases hf : t.val = 15
  · rw [show (dats m 0 c).leavesExact 5 t = owns (c : Thread nD τ) (ms5 t) fullShare ((dats m 0 c).after 5 t) from by
      unfold Dat.leavesExact
      rw [show cfg0.idle 5 (cfg0.grid.coords t) = true from idle_later t h0, flush5_last t hf], after5]
    iintro ⟨%d, H⟩
    rw [before5 m c t.val t.isLt d h0]
    iexact H
  · rw [Dat.leavesExact_idle _ 5 t (show cfg0.idle 5 (cfg0.grid.coords t) = true from idle_later t h0) (flush5_early t (by omega))]

theorem flush6_early (t : Fin cfg0.N) (h : t.val < 15) : (cfg0.win 6).flush t = false :=
  Bool.eq_false_iff.mpr fun h' => by have := (flush0_6 t).mp h'; omega
theorem flush6_last (t : Fin cfg0.N) (h : t.val = 15) : (cfg0.win 6).flush t = true :=
  (flush0_6 t).mpr (by omega)

/-- After the first point the buffer still holds what the first point stored. -/
theorem before6 (c : Dev nD) : ∀ (n : ℕ) (h : n < cfg0.N) (d), n ≠ 0 → (dats m 0 c).before 6 ⟨n, h⟩ d = xsOf (F := F) (xin m c)
  | 0, _, _, h0 => absurd rfl h0
  | n + 1, h, d, _ => by
    have hN : n + 1 < 16 := Nat.lt_of_lt_of_eq h N_0
    have hn : n < cfg0.N := Nat.lt_of_succ_lt h
    rw [Dat.before_of_pos _ 6 ⟨n + 1, h⟩ (Nat.succ_ne_zero n) rfl d]
    have e : (⟨(⟨n + 1, h⟩ : Fin cfg0.N).val - 1, Nat.lt_of_le_of_lt (Nat.sub_le _ _) (⟨n + 1, h⟩ : Fin cfg0.N).isLt⟩ : Fin cfg0.N) = ⟨n, hn⟩ := rfl
    rw [e, flush6_early ⟨n, hn⟩ (by show n < 15; omega), if_neg Bool.false_ne_true]
    unfold Dat.left
    by_cases h0 : n = 0
    · rw [show cfg0.idle 6 (cfg0.grid.coords ⟨n, hn⟩) = false from idle_first ⟨n, hn⟩ h0]
      exact after6 m c ⟨n, hn⟩
    · rw [show cfg0.idle 6 (cfg0.grid.coords ⟨n, hn⟩) = true from idle_later ⟨n, hn⟩ h0]
      exact before6 c n hn d h0

/-- At a point that stores nothing there the buffer is handed back as found; written back, it holds the result. -/
theorem leaves6 (c : Dev nD) (t : Fin cfg0.N) (h0 : t.val ≠ 0) :
    (iprop(∃ d, owns (c : Thread nD τ) (ms6 t) fullShare ((dats m 0 c).before 6 t d)) : sProp 𝕄) ⊢ (dats m 0 c).leavesExact 6 t := by
  have hN : t.val < 16 := Nat.lt_of_lt_of_eq t.isLt N_0
  by_cases hf : t.val = 15
  · rw [show (dats m 0 c).leavesExact 6 t = owns (c : Thread nD τ) (ms6 t) fullShare ((dats m 0 c).after 6 t) from by
      unfold Dat.leavesExact
      rw [show cfg0.idle 6 (cfg0.grid.coords t) = true from idle_later t h0, flush6_last t hf], after6]
    iintro ⟨%d, H⟩
    rw [before6 m c t.val t.isLt d h0]
    iexact H
  · rw [Dat.leavesExact_idle _ 6 t (show cfg0.idle 6 (cfg0.grid.coords t) = true from idle_later t h0) (flush6_early t (by omega))]

theorem leaves_live0 (c : Dev nD) (t : Fin cfg0.N) : (dats m 0 c).leavesExact 0 t = owns (c : Thread nD τ) (ms0 t) fullShare ((dats m 0 c).after 0 t) := by
  unfold Dat.leavesExact; rw [show cfg0.idle 0 (cfg0.grid.coords t) = false from rfl]
theorem leaves_live1 (c : Dev nD) (t : Fin cfg0.N) : (dats m 0 c).leavesExact 1 t = owns (c : Thread nD τ) (ms1 t) fullShare ((dats m 0 c).after 1 t) := by
  unfold Dat.leavesExact; rw [show cfg0.idle 1 (cfg0.grid.coords t) = false from rfl]
theorem leaves_live2 (c : Dev nD) (t : Fin cfg0.N) : (dats m 0 c).leavesExact 2 t = owns (c : Thread nD τ) (ms2 t) fullShare ((dats m 0 c).after 2 t) := by
  unfold Dat.leavesExact; rw [show cfg0.idle 2 (cfg0.grid.coords t) = false from rfl]
theorem leaves_live3 (c : Dev nD) (t : Fin cfg0.N) : (dats m 0 c).leavesExact 3 t = owns (c : Thread nD τ) (ms3 t) fullShare ((dats m 0 c).after 3 t) := by
  unfold Dat.leavesExact; rw [show cfg0.idle 3 (cfg0.grid.coords t) = false from rfl]
theorem leaves_live4 (c : Dev nD) (t : Fin cfg0.N) : (dats m 0 c).leavesExact 4 t = owns (c : Thread nD τ) (ms4 t) fullShare ((dats m 0 c).after 4 t) := by
  unfold Dat.leavesExact; rw [show cfg0.idle 4 (cfg0.grid.coords t) = false from rfl]
theorem leaves_first5 (c : Dev nD) (t : Fin cfg0.N) (h : t.val = 0) : (dats m 0 c).leavesExact 5 t = owns (c : Thread nD τ) (ms5 t) fullShare ((dats m 0 c).after 5 t) := by
  unfold Dat.leavesExact; rw [show cfg0.idle 5 (cfg0.grid.coords t) = false from idle_first t h]
theorem leaves_first6 (c : Dev nD) (t : Fin cfg0.N) (h : t.val = 0) : (dats m 0 c).leavesExact 6 t = owns (c : Thread nD τ) (ms6 t) fullShare ((dats m 0 c).after 6 t) := by
  unfold Dat.leavesExact; rw [show cfg0.idle 6 (cfg0.grid.coords t) = false from idle_first t h]

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [leaves_live0, leaves_live1, leaves_live2, leaves_live3, leaves_live4, after0, after1, after2, after3, after4]
  rw [show (dats m 0 c).Φ t.succ = iprop(iprop(owns (c : Thread nD τ) scM0 fullShare (xdOf (xin m c)) ∗ (∃ d, owns (c : Thread nD τ) scM1 fullShare d)) ∗ (∃ r, prngReg c r)) from rfl]
  by_cases h0 : t.val = 0
  · obtain rfl : t = t0_0 := Fin.ext h0
    rw [show (dats m 0 c).Φ t0_0.castSucc = Pipeline.ΦA spec0 c from rfl, PhiA0_eq]
    rw [leaves_first5 m c _ h0, leaves_first6 m c _ h0, after5, after6]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((run_first c (grid0.coords t0_0) _ _ _ _ _ _ _ _ _ _ _ _ _ _ _ _ _ _ ((hcond t0_0).mpr h0) (iblk m c 0 t0_0) (iblk m c 1 t0_0) (iblk m c 2 t0_0) (iblk m c 3 t0_0)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).Φ t.castSucc = iprop(iprop(owns (c : Thread nD τ) scM0 fullShare (xdOf (xin m c)) ∗ (∃ d, owns (c : Thread nD τ) scM1 fullShare d)) ∗ (∃ r, prngReg c r)) from by
      show PhiAt m c t.val = _
      obtain ⟨n, hn⟩ := Nat.exists_eq_succ_of_ne_zero h0
      rw [hn]; rfl]
    iintro ⟨⟨⟨HS0, HS1⟩, Hg⟩, Ho, ⟨%d0, H0⟩, ⟨%d1, H1⟩, ⟨%d2, H2⟩, ⟨%d3, H3⟩, ⟨%d4, H4⟩, H5, H6⟩
    iapply ((run_later c (grid0.coords t) (ms0 t) _ _ _ _ _ _ _ _ _ (ms5 t) _ (ms6 t) _ _ _ _ _ (fun h => h0 ((hcond t).mp h)) (iblk m c 1 t) (iblk m c 2 t) (iblk m c 3 t) (xdOf (xin m c))) Set.univ _)
    isplitl [H1]; · iexact H1
    isplitl [H2]; · iexact H2
    isplitl [H3]; · iexact H3
    isplitl [H4]; · iexists _; iexact H4
    isplitl [HS0]; · iexact HS0
    isplitl [HS1]; · iexact HS1
    iintro ⟨H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves5 m c t h0); iexact H5
    iapply (leaves6 m c t h0); iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The invariant after the last point forgets to the one the region began with. -/
theorem Phi_out (c : Dev nD) : (dats (F := F) m 0 c).Φ (Fin.last cfg0.N) ⊢ (Pipeline.ΦA spec0 c : sProp 𝕄) := by
  have h : (dats (F := F) m 0 c).Φ (Fin.last cfg0.N) = iprop(iprop(owns (c : Thread nD τ) scM0 fullShare (xdOf (xin m c)) ∗ (∃ d, owns (c : Thread nD τ) scM1 fullShare d)) ∗ (∃ r, prngReg c r)) := by
    show PhiAt m c cfg0.N = _
    rw [show cfg0.N = 16 from N_0]; rfl
  rw [h, PhiA0_eq]
  iintro ⟨⟨HS0, HS1⟩, Hg⟩
  isplitl [HS0 HS1]
  · isplitl [HS0]
    · iexists _; iexact HS0
    iexact HS1
  iexact Hg

set_option backward.isDefEq.respectTransparency.types false in
/-- Every execution ends with the arrays the proof data names, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := Phi_out m) (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel.Hand

end
-- ==== Proof.Exponent.lean ====
/- The shared exponent of a block of thirty-two activations, as a function of the block's largest magnitude: what it is
   (`E`), that the kernel's binary search for the exponent field computes it, and that the reference's count of the powers
   of two below the quotient computes it too. -/
module

public import Idealize.ShloMosaic.Lib.Pointwise
public import Mathlib.Algebra.Order.Archimedean.Basic

@[expose] public section

set_option maxRecDepth 16384

noncomputable section

namespace Cert.Mx

open Idealize.ShloMosaic

/-- The power of two `2 ^ n` as an extended real. -/
def two (n : Int) : EReal := (((2 : ℝ) ^ n : ℝ) : EReal)

/-- The logarithm to base two of a positive real, rounded down. -/
def lg (x : ℝ) : Int := if h : 0 < x then Classical.choose (exists_mem_Ico_zpow h (one_lt_two (α := ℝ))) else 0

theorem zpow_le {x : ℝ} (hx : 0 < x) (n : Int) : (2 : ℝ) ^ n ≤ x ↔ n ≤ lg x := by
  have h := Classical.choose_spec (exists_mem_Ico_zpow hx (one_lt_two (α := ℝ)))
  have e : lg x = Classical.choose (exists_mem_Ico_zpow hx (one_lt_two (α := ℝ))) := dif_pos hx
  rw [← e] at h
  constructor
  · intro hn
    have : (2 : ℝ) ^ n < 2 ^ (lg x + 1) := lt_of_le_of_lt hn h.2
    have := (zpow_lt_zpow_iff_right₀ (one_lt_two (α := ℝ))).mp this
    omega
  · intro hn
    exact le_trans ((zpow_le_zpow_iff_right₀ (one_lt_two (α := ℝ))).mpr hn) h.1

/-- The exponent `e` with `2 ^ (e - 1) ≤ r < 2 ^ e`, clipped to `-127 … 127`; zero where `r` is zero or infinite. -/
def E (r : EReal) : Int := if 0 < r ∧ r < ⊤ then max (-127) (min 127 (lg r.toReal + 1)) else 0

theorem E_bounds (r : EReal) : -127 ≤ E r ∧ E r ≤ 127 := by
  unfold E; split <;> omega

/-! ## The words of powers of two -/

theorem word_parts : ∀ t : Fin 256, ((BitVec.ofNat 32 t.val <<< 23).extractLsb' 23 8).toNat = t.val
    ∧ ((BitVec.ofNat 32 t.val <<< 23).extractLsb' 31 1 = 0#1) ∧ ((BitVec.ofNat 32 t.val <<< 23).extractLsb' 0 23).toNat = 0 := by
  decide +kernel

theorem ofBits_f32 (b : BitVec 32) : Ideal.ofBits .f32 b = Ideal.ieee 8 23 b := rfl

/-- A biased exponent `t` in the exponent field, the other bits zero, is the word of `2 ^ (t - 127)`. -/
theorem ofBits_field {t : ℕ} (h1 : 1 ≤ t) (h2 : t ≤ 254) :
    Ideal.ofBits .f32 (BitVec.ofNat 32 t <<< 23) = two ((t : Int) - 127) := by
  obtain ⟨he, hs, hf⟩ := word_parts ⟨t, by omega⟩
  simp only at he hs hf
  rw [ofBits_f32]
  unfold Ideal.ieee
  simp only [Nat.reduceAdd, he, hs, hf]
  rw [if_neg (by omega), if_neg (by omega)]
  have h3 : (2 : ℝ) ^ ((t : Int) - 127) = 2 ^ 23 * 2 ^ ((t : Int) - (2 ^ (8 - 1) - 1) - (23 : ℕ)) := by
    rw [show ((t : Int) - 127) = 23 + ((t : Int) - (2 ^ (8 - 1) - 1) - (23 : ℕ)) by norm_num, zpow_add₀ (by norm_num)]
    norm_num
  unfold two
  rw [h3, EReal.coe_eq_coe_iff, if_neg (by decide), one_mul]
  push_cast
  norm_num

/-- The all-ones exponent field is infinity. -/
theorem ofBits_field_top : Ideal.ofBits .f32 (BitVec.ofNat 32 255 <<< 23) = ⊤ := by
  obtain ⟨he, hs, hf⟩ := word_parts ⟨255, by omega⟩
  simp only at he hs hf
  rw [ofBits_f32]
  unfold Ideal.ieee
  simp only [Nat.reduceAdd, he, hs, hf]
  norm_num

theorem ofBits_inf : Ideal.ofBits .f32 0x7F800000#32 = ⊤ := ofBits_field_top
theorem ofBits_min : Ideal.ofBits .f32 0x00800000#32 = two (-126) := ofBits_field (t := 1) (by omega) (by omega)
theorem ofBits_p23 : Ideal.ofBits .f32 0x4B000000#32 = two 23 := ofBits_field (t := 150) (by omega) (by omega)
theorem ofBits_m23 : Ideal.ofBits .f32 0x34000000#32 = two (-23) := ofBits_field (t := 104) (by omega) (by omega)
theorem ofBits_two : Ideal.ofBits .f32 0x40000000#32 = ((2 : ℝ) : EReal) := by
  rw [show (0x40000000#32 : BitVec 32) = BitVec.ofNat 32 128 <<< 23 from rfl, ofBits_field (by omega) (by omega)]
  unfold two; norm_num

theorem two_mul (a b : Int) : two a * two b = two (a + b) := by
  unfold two; rw [← EReal.coe_mul, ← zpow_add₀ (by norm_num)]

theorem two_zero : two 0 = 1 := by unfold two; norm_num

theorem pow_two (n : Int) : Ideal.pow (((2 : ℝ)) : EReal) ((((n : Int) : ℝ)) : EReal) = two n := by
  show ((Real.rpow 2 (n : ℝ) : ℝ) : EReal) = _
  unfold two; congr 1
  exact Real.rpow_intCast 2 n

theorem sel_of {α : Type} (p : Prop) [Decidable p] (a b : α) : Scalar.select (BitVec.ofBool (decide p)) a b = if p then a else b := by
  by_cases h : p
  · rw [if_pos h]; simp only [h, decide_true]; rfl
  · rw [if_neg h]; simp only [h, decide_false]; rfl

theorem and_of (p q : Prop) [Decidable p] [Decidable q] :
    IntOp.andi (BitVec.ofBool (decide p)) (BitVec.ofBool (decide q)) = BitVec.ofBool (decide (p ∧ q)) := by
  by_cases h : p <;> by_cases h' : q <;> simp only [h, h', decide_true, decide_false, and_self, and_true, and_false] <;> decide

theorem clip_zero : (0#32 : BitVec 32) = BitVec.ofInt 32 0 := rfl

/-! ## The kernel's search -/

/-- One step of the search: `s` is added to the field `f` when the float of the raised field is still at most `v`. -/
def fieldStep (v : EReal) (s f : BitVec 32) : BitVec 32 :=
  Scalar.select (Ideal.cmp .oge v (Ideal.ofBits .f32 (IntOp.shli .vector (IntOp.addi f s) 23#32))) (IntOp.addi f s) f

/-- The eight steps. -/
def field (v : EReal) : BitVec 32 :=
  fieldStep v 1#32 (fieldStep v 2#32 (fieldStep v 4#32 (fieldStep v 8#32 (fieldStep v 16#32 (fieldStep v 32#32
    (fieldStep v 64#32 (fieldStep v 128#32 0#32)))))))

/-- The same steps on natural numbers, against a known threshold. -/
def stepN (N s f : ℕ) : ℕ := if f + s ≤ N then f + s else f

theorem stepN_le (N s f : ℕ) : stepN N s f ≤ f + s := by unfold stepN; split <;> omega

theorem search_eq : ∀ N : Fin 255, stepN N.val 1 (stepN N.val 2 (stepN N.val 4 (stepN N.val 8 (stepN N.val 16 (stepN N.val 32
    (stepN N.val 64 (stepN N.val 128 0))))))) = N.val := by decide +kernel

theorem shl_field {t : ℕ} : IntOp.shli .vector (BitVec.ofNat 32 t) 23#32 = BitVec.ofNat 32 t <<< 23 := rfl

theorem fieldStep_eq {v : EReal} {N : ℕ}
    (hP : ∀ t : ℕ, 1 ≤ t → t ≤ 255 → (Ideal.ofBits .f32 (BitVec.ofNat 32 t <<< 23) ≤ v ↔ t ≤ N)) {f s : ℕ} (hs : 1 ≤ s) (hf : f + s ≤ 255) :
    fieldStep v (BitVec.ofNat 32 s) (BitVec.ofNat 32 f) = BitVec.ofNat 32 (stepN N s f) := by
  have ha : IntOp.addi (BitVec.ofNat 32 f) (BitVec.ofNat 32 s) = BitVec.ofNat 32 (f + s) := (BitVec.ofNat_add f s).symm
  unfold fieldStep stepN
  rw [ha, shl_field]
  have h := hP (f + s) (by omega) hf
  unfold Scalar.select Ideal.cmp
  by_cases hN : f + s ≤ N
  · rw [if_pos hN]; simp [h.mpr hN]
  · rw [if_neg hN]; simp [mt h.mp hN]

/-- The search ends at the threshold. -/
theorem field_eq {v : EReal} {N : ℕ} (hN : N ≤ 254)
    (hP : ∀ t : ℕ, 1 ≤ t → t ≤ 255 → (Ideal.ofBits .f32 (BitVec.ofNat 32 t <<< 23) ≤ v ↔ t ≤ N)) :
    field v = BitVec.ofNat 32 N := by
  have h1 := stepN_le N 128 0
  have h2 := stepN_le N 64 (stepN N 128 0)
  have h3 := stepN_le N 32 (stepN N 64 (stepN N 128 0))
  have h4 := stepN_le N 16 (stepN N 32 (stepN N 64 (stepN N 128 0)))
  have h5 := stepN_le N 8 (stepN N 16 (stepN N 32 (stepN N 64 (stepN N 128 0))))
  have h6 := stepN_le N 4 (stepN N 8 (stepN N 16 (stepN N 32 (stepN N 64 (stepN N 128 0)))))
  have h7 := stepN_le N 2 (stepN N 4 (stepN N 8 (stepN N 16 (stepN N 32 (stepN N 64 (stepN N 128 0))))))
  unfold field
  rw [show (0#32 : BitVec 32) = BitVec.ofNat 32 0 from rfl, fieldStep_eq hP (by omega) (by omega), fieldStep_eq hP (by omega) (by omega),
    fieldStep_eq hP (by omega) (by omega), fieldStep_eq hP (by omega) (by omega), fieldStep_eq hP (by omega) (by omega),
    fieldStep_eq hP (by omega) (by omega), fieldStep_eq hP (by omega) (by omega), fieldStep_eq hP (by omega) (by omega)]
  rw [search_eq ⟨N, by omega⟩]

/-- A power of two is at most a positive real exactly when its exponent is at most the real's logarithm, rounded down. -/
theorem two_le {x : ℝ} (hx : 0 < x) (n : Int) : two n ≤ (x : EReal) ↔ n ≤ lg x := by
  unfold two
  rw [EReal.coe_le_coe_iff]
  exact zpow_le hx n

/-- The field that the search finds in a positive real. -/
theorem field_real {x : ℝ} (hx : 0 < x) :
    field (x : EReal) = BitVec.ofNat 32 (max 0 (min 254 (lg x + 127))).toNat := by
  refine field_eq (by omega) fun t h1 h2 => ?_
  rcases Nat.lt_or_ge t 255 with h | h
  · rw [ofBits_field h1 (by omega), two_le hx]; omega
  · obtain rfl : t = 255 := by omega
    rw [ofBits_field_top]
    constructor
    · intro h; exact absurd (top_le_iff.mp h) (EReal.coe_ne_top x)
    · omega

theorem log_shift {x : ℝ} (hx : 0 < x) : lg (x * 2 ^ (23 : Int)) = lg x + 23 := by
  have key : ∀ n : Int, n ≤ lg (x * 2 ^ (23 : Int)) ↔ n ≤ lg x + 23 := fun n => by
    rw [← two_le (by positivity), ← sub_le_iff_le_add, ← two_le hx]
    unfold two
    rw [EReal.coe_le_coe_iff, EReal.coe_le_coe_iff, zpow_sub₀ (by norm_num), div_le_iff₀ (by positivity)]
  exact le_antisymm ((key _).mp le_rfl) ((key _).mpr le_rfl)

/-- The kernel's exponent, before the clip, of the largest magnitude `a` and its quotient `r`. -/
def kexpRaw (a r : EReal) : BitVec 32 :=
  Scalar.select (Ideal.cmp .oeq a (Ideal.ofBits .f32 0x00000000#32)) 0#32
    (Scalar.select (IntOp.andi (Ideal.cmp .ogt r (Ideal.ofBits .f32 0x00000000#32)) (Ideal.cmp .olt r (Ideal.ofBits .f32 0x7F800000#32)))
      (IntOp.subi (IntOp.addi (Scalar.select (Ideal.cmp .olt r (Ideal.ofBits .f32 0x00800000#32)) 4294967273#32 0#32)
        (field (Scalar.select (Ideal.cmp .olt r (Ideal.ofBits .f32 0x00800000#32)) (r * Ideal.ofBits .f32 0x4B000000#32) r))) 126#32) 0#32)

/-- The clip to `-127 … 127`. -/
def clip (e : BitVec 32) : BitVec 32 := IntOp.minsi 127#32 (IntOp.maxsi 4294967169#32 e)

theorem clip_table : ∀ n : Fin 1024, clip (BitVec.ofInt 32 ((n.val : Int) - 512)) = BitVec.ofInt 32 (max (-127) (min 127 ((n.val : Int) - 512))) := by
  decide +kernel

theorem clip_eq {z : Int} (h1 : -512 ≤ z) (h2 : z ≤ 511) : clip (BitVec.ofInt 32 z) = BitVec.ofInt 32 (max (-127) (min 127 z)) := by
  have h := clip_table ⟨(z + 512).toNat, by omega⟩
  have hz : (((z + 512).toNat : ℕ) : Int) - 512 = z := by omega
  simp only [hz] at h
  exact h

theorem field_word : ∀ N : Fin 255, (IntOp.subi (IntOp.addi 4294967273#32 (BitVec.ofNat 32 N.val)) 126#32 = BitVec.ofInt 32 ((N.val : Int) - 149))
    ∧ (IntOp.subi (IntOp.addi 0#32 (BitVec.ofNat 32 N.val)) 126#32 = BitVec.ofInt 32 ((N.val : Int) - 126)) := by
  decide +kernel

/-- The kernel's clipped exponent is `E`. -/
theorem kexp_eq {a r : EReal} (h0 : a = 0 → r = 0) : clip (kexpRaw a r) = BitVec.ofInt 32 (E r) := by
  have z : Ideal.ofBits .f32 0x00000000#32 = 0 := Ideal.ofBits_zero_f32
  unfold kexpRaw
  rw [z, ofBits_inf, ofBits_min, ofBits_p23]
  unfold Ideal.cmp
  simp only [and_of, sel_of]
  unfold E
  by_cases hr : 0 < r ∧ r < ⊤
  swap
  · rw [if_neg hr, if_neg hr, ite_self]; decide
  have ha : ¬ a = 0 := fun ha => absurd (h0 ha) hr.1.ne'
  rw [if_neg ha, if_pos hr, if_pos hr]
  obtain ⟨h1, h2⟩ := hr
  lift r to ℝ using ⟨h2.ne, (bot_lt_iff_ne_bot.mp (lt_trans (by exact_mod_cast EReal.bot_lt_zero) h1))⟩
  have hx : 0 < r := by exact_mod_cast h1
  rw [EReal.toReal_coe]
  have hlt : (r : EReal) < two (-126) ↔ lg r < -126 := by
    rw [← not_le, two_le hx, not_le]
  by_cases hs : lg r < -126
  · have hv : (r : EReal) * two 23 = ((r * 2 ^ (23 : Int) : ℝ) : EReal) := by unfold two; rw [EReal.coe_mul]
    rw [if_pos (hlt.mpr hs), if_pos (hlt.mpr hs), hv, field_real (mul_pos hx (by positivity : (0 : ℝ) < 2 ^ (23 : Int))), log_shift hx]
    have := (field_word ⟨(max 0 (min 254 (lg r + 23 + 127))).toNat, by omega⟩).1
    simp only at this
    rw [this, clip_eq (by omega) (by omega)]
    congr 1; omega
  · rw [if_neg (mt hlt.mp hs), if_neg (mt hlt.mp hs), field_real hx]
    have := (field_word ⟨(max 0 (min 254 (lg r + 127))).toNat, by omega⟩).2
    simp only at this
    rw [this, clip_eq (by omega) (by omega)]
    congr 1; omega

/-! ## The reference's count -/

/-- The reference's exponent, before the clip: how many of `2 ^ -149, …, 2 ^ 127` are at most `r`, less 149. -/
def rexpRaw (a r : EReal) : BitVec 32 :=
  if a = 0 then 0#32
  else Scalar.select (IntOp.andi (BitVec.ofBool (decide (0 < r))) (BitVec.ofBool (decide (r < Ideal.ofBits .f32 0x7F800000#32))))
    (IntOp.subi (Finset.fold IntOp.addi (0#32) (fun i : Fin 277 => BitVec.setWidth 32 (BitVec.ofBool (decide
      (Ideal.pow (Ideal.ofBits .f32 0x40000000#32) (FloatOps.sitofp (F := Ideal) .f32 (IntOp.subi (BitVec.ofNat 32 i.val) 149#32)) ≤ r)))) Finset.univ) 149#32)
    0#32

theorem power_word : ∀ i : Fin 277, (IntOp.subi (BitVec.ofNat 32 i.val) 149#32).toInt = (i.val : Int) - 149 := by decide +kernel

theorem power (i : Fin 277) : Ideal.pow (Ideal.ofBits .f32 0x40000000#32)
    (FloatOps.sitofp (F := Ideal) .f32 (IntOp.subi (BitVec.ofNat 32 i.val) 149#32)) = two ((i.val : Int) - 149) := by
  rw [ofBits_two]
  show Ideal.pow _ ((((IntOp.subi (BitVec.ofNat 32 i.val) 149#32).toInt : ℝ)) : EReal) = _
  rw [power_word, pow_two]

theorem count_table : ∀ n : Fin 278, Finset.fold IntOp.addi (0#32) (fun i : Fin 277 => BitVec.setWidth 32 (BitVec.ofBool (decide (i.val < n.val)))) Finset.univ
    = BitVec.ofNat 32 n.val := by
  intro n
  have h : ∀ s : Finset (Fin 277), Finset.fold IntOp.addi (0#32) (fun i : Fin 277 => BitVec.setWidth 32 (BitVec.ofBool (decide (i.val < n.val)))) s
      = BitVec.ofNat 32 (s.filter fun i : Fin 277 => i.val < n.val).card := by
    intro s
    induction s using Finset.induction_on with
    | empty => rfl
    | insert a s ha ih =>
      rw [Finset.fold_insert ha, ih, Finset.filter_insert]
      by_cases h : a.val < n.val
      · rw [if_pos h, Finset.card_insert_of_notMem (by simp [ha])]
        simp only [h, decide_true, IntOp.addi]
        rw [Nat.add_comm, BitVec.ofNat_add]; rfl
      · rw [if_neg h]; simp [h, IntOp.addi]
  rw [h]
  congr 1
  have : (Finset.univ.filter fun i : Fin 277 => i.val < n.val) = Finset.univ.filter fun i : Fin 277 => i.val < n.val := rfl
  rw [Fin.card_filter_val_lt]
  omega

theorem count_word : ∀ n : Fin 278, IntOp.subi (BitVec.ofNat 32 n.val) 149#32 = BitVec.ofInt 32 ((n.val : Int) - 149) := by
  decide +kernel

/-- The reference's clipped exponent is `E`. -/
theorem rexp_eq {a r : EReal} (h0 : a = 0 → r = 0) : clip (rexpRaw a r) = BitVec.ofInt 32 (E r) := by
  unfold rexpRaw
  simp only [power, and_of, sel_of]
  rw [ofBits_inf]
  unfold E
  by_cases hr : 0 < r ∧ r < ⊤
  swap
  · rw [if_neg hr, if_neg hr, ite_self]; decide
  have ha : ¬ a = 0 := fun ha => absurd (h0 ha) hr.1.ne'
  rw [if_neg ha, if_pos hr, if_pos hr]
  obtain ⟨h1, h2⟩ := hr
  lift r to ℝ using ⟨h2.ne, (bot_lt_iff_ne_bot.mp (lt_trans (by exact_mod_cast EReal.bot_lt_zero) h1))⟩
  have hx : 0 < r := by exact_mod_cast h1
  rw [EReal.toReal_coe]
  have hc : Finset.fold IntOp.addi (0#32) (fun i : Fin 277 => BitVec.setWidth 32 (BitVec.ofBool (decide (two ((i.val : Int) - 149) ≤ (r : EReal))))) Finset.univ
      = BitVec.ofNat 32 (max 0 (min 277 (lg r + 150))).toNat := by
    have h := count_table ⟨(max 0 (min 277 (lg r + 150))).toNat, by omega⟩
    refine Eq.trans ?_ h
    congr 1; funext i
    have hi := i.isLt
    have : (two ((i.val : Int) - 149) ≤ (r : EReal)) ↔ i.val < (max 0 (min 277 (lg r + 150))).toNat := by
      rw [two_le hx]; omega
    simp only [this]
  rw [hc]
  have := count_word ⟨(max 0 (min 277 (lg r + 150))).toNat, by omega⟩
  simp only at this
  rw [this, clip_eq (by omega) (by omega)]
  congr 1; omega

end Cert.Mx

end
-- ==== Proof.Decode.lean ====
/- What the words that carry scales stand for: the kernel's `ldexp`, the scale bytes of the activations and of the weights,
   the reference's powers of two; and the absorption of a finite scale into a sum. -/
module

public import proofs.«01_k».proof.Proof.Exponent
public import Idealize.ShloMosaic.Lib.BitcastPair

@[expose] public section

set_option maxRecDepth 16384

noncomputable section

namespace Cert.Mx

open Idealize.ShloMosaic

/-! ## The kernel's `ldexp` of one -/

/-- The kernel's `ldexp` of one by `n`. -/
def ldexpW (n : BitVec 32) : EReal :=
  Scalar.select (IntOp.cmpi .slt n 4294967170#32) (Ideal.ofBits .f32 872415232#32) (1 : EReal)
    * Ideal.ofBits .f32 (IntOp.shli .vector (IntOp.addi (Scalar.select (IntOp.cmpi .slt n 4294967170#32) (IntOp.addi n 23#32) n) 127#32) 23#32)

theorem ldexp_word : ∀ n : Fin 255,
    (IntOp.cmpi .slt (BitVec.ofInt 32 ((n.val : Int) - 127)) 4294967170#32 = BitVec.ofBool (decide (n.val = 0)))
    ∧ IntOp.addi (IntOp.addi (BitVec.ofInt 32 ((n.val : Int) - 127)) 23#32) 127#32 = BitVec.ofNat 32 (n.val + 23)
    ∧ IntOp.addi (BitVec.ofInt 32 ((n.val : Int) - 127)) 127#32 = BitVec.ofNat 32 n.val := by
  decide +kernel

theorem ldexpW_eq {z : Int} (h1 : -127 ≤ z) (h2 : z ≤ 127) : ldexpW (BitVec.ofInt 32 z) = two z := by
  obtain ⟨n, rfl⟩ : ∃ n : ℕ, z = (n : Int) - 127 := ⟨(z + 127).toNat, by omega⟩
  obtain ⟨a, b, c⟩ := ldexp_word ⟨n, by omega⟩
  simp only at a b c
  unfold ldexpW
  rw [a, sel_of, sel_of]
  by_cases hn : n = 0
  · rw [if_pos hn, if_pos hn, b, ofBits_m23, shl_field, ofBits_field (by omega) (by omega), two_mul]
    congr 1; push_cast; omega
  · rw [if_neg hn, if_neg hn, c, one_mul, shl_field, ofBits_field (by omega) (by omega)]

theorem neg_word : ∀ n : Fin 255, IntOp.subi 0#32 (BitVec.ofInt 32 ((n.val : Int) - 127)) = BitVec.ofInt 32 (-((n.val : Int) - 127))
    ∧ -(BitVec.ofInt 32 ((n.val : Int) - 127)) = BitVec.ofInt 32 (-((n.val : Int) - 127))
    ∧ (BitVec.ofInt 32 (-((n.val : Int) - 127))).toInt = -((n.val : Int) - 127)
    ∧ (IntOp.subi (BitVec.setWidth 32 (BitVec.setWidth 8 (IntOp.addi (BitVec.ofInt 32 ((n.val : Int) - 127)) 127#32))) 127#32).toInt = (n.val : Int) - 127 := by
  decide +kernel

theorem sub_neg {z : Int} (h1 : -127 ≤ z) (h2 : z ≤ 127) : IntOp.subi 0#32 (BitVec.ofInt 32 z) = BitVec.ofInt 32 (-z) := by
  obtain ⟨n, rfl⟩ : ∃ n : ℕ, z = (n : Int) - 127 := ⟨(z + 127).toNat, by omega⟩
  exact (neg_word ⟨n, by omega⟩).1

theorem negi_eq {z : Int} (h1 : -127 ≤ z) (h2 : z ≤ 127) : -(BitVec.ofInt 32 z) = BitVec.ofInt 32 (-z) := by
  obtain ⟨n, rfl⟩ : ∃ n : ℕ, z = (n : Int) - 127 := ⟨(z + 127).toNat, by omega⟩
  exact (neg_word ⟨n, by omega⟩).2.1

/-! ## The reference's powers of two -/

/-- Two to the power of the integer in a word. -/
theorem pow_word {w : BitVec 32} {z : Int} (h : w.toInt = z) :
    Ideal.pow (Ideal.ofBits .f32 0x40000000#32) (FloatOps.sitofp (F := Ideal) .f32 w) = two z := by
  rw [ofBits_two]
  show Ideal.pow _ ((((w.toInt : Int) : ℝ)) : EReal) = _
  rw [h, pow_two]

theorem toInt_neg {z : Int} (h1 : -127 ≤ z) (h2 : z ≤ 127) : (BitVec.ofInt 32 (-z)).toInt = -z := by
  obtain ⟨n, rfl⟩ : ∃ n : ℕ, z = (n : Int) - 127 := ⟨(z + 127).toNat, by omega⟩
  exact (neg_word ⟨n, by omega⟩).2.2.1

/-- The scale byte of an exponent. -/
def byte (z : Int) : BitVec 8 := BitVec.setWidth 8 (IntOp.addi (BitVec.ofInt 32 z) 127#32)

/-- A scale byte less its bias is the exponent again. -/
theorem toInt_byte {z : Int} (h1 : -127 ≤ z) (h2 : z ≤ 127) : (IntOp.subi (BitVec.setWidth 32 (byte z)) 127#32).toInt = z := by
  obtain ⟨n, rfl⟩ : ∃ n : ℕ, z = (n : Int) - 127 := ⟨(z + 127).toNat, by omega⟩
  exact (neg_word ⟨n, by omega⟩).2.2.2

theorem toInt_scale : ∀ s : BitVec 8, (IntOp.subi (BitVec.setWidth 32 s) 127#32).toInt = (s.toNat : Int) - 127 := by
  decide +kernel

/-! ## The weight scales: a byte in the exponent field of both halves of a word -/

/-- The scale word of a byte. -/
def sword (s : BitVec 8) : BitVec 32 :=
  IntOp.ori (IntOp.shli .vector (BitVec.setWidth 32 s) 7#32) (IntOp.shli .vector (BitVec.setWidth 32 s) 23#32)

theorem sword_half : ∀ s : BitVec 8, ((sword s).extractLsb' 0 16 = BitVec.setWidth 16 s <<< 7) ∧ ((sword s).extractLsb' 16 16 = BitVec.setWidth 16 s <<< 7) := by
  decide +kernel

theorem half_parts : ∀ s : BitVec 8, ((BitVec.setWidth 16 s <<< 7).extractLsb' 7 8).toNat = s.toNat
    ∧ ((BitVec.setWidth 16 s <<< 7).extractLsb' 15 1 = 0#1) ∧ ((BitVec.setWidth 16 s <<< 7).extractLsb' 0 7).toNat = 0 := by
  decide +kernel

theorem ofBits_bf16 (b : BitVec 16) : Ideal.ofBits .bf16 b = Ideal.ieee 8 7 b := rfl

/-- A half of a scale word, read as a bf16, is the scale. -/
theorem ofBits_half {s : BitVec 8} (h1 : 1 ≤ s.toNat) (h2 : s.toNat ≤ 254) :
    Ideal.ofBits .bf16 (BitVec.setWidth 16 s <<< 7) = two ((s.toNat : Int) - 127) := by
  obtain ⟨he, hs, hf⟩ := half_parts s
  generalize s.toNat = t at *
  rw [ofBits_bf16]
  unfold Ideal.ieee
  simp only [Nat.reduceAdd, he, hs, hf]
  rw [if_neg (by omega), if_neg (by omega)]
  have h3 : (2 : ℝ) ^ ((t : Int) - 127) = 2 ^ 7 * 2 ^ ((t : Int) - (2 ^ (8 - 1) - 1) - (7 : ℕ)) := by
    rw [show ((t : Int) - 127) = 7 + ((t : Int) - (2 ^ (8 - 1) - 1) - (7 : ℕ)) by norm_num, zpow_add₀ (by norm_num)]
    norm_num
  unfold two
  rw [h3, EReal.coe_eq_coe_iff, if_neg (by decide), one_mul]
  push_cast
  norm_num

/-- The halves of equal words, as a column of sixteen rows out of eight. -/
theorem half_any {w : BitVec 32} {s : BitVec 8} (hw : w = sword s) (r : ℕ) : w.extractLsb' (16 * (r % 2)) 16 = BitVec.setWidth 16 s <<< 7 := by
  subst hw
  rcases Nat.mod_two_eq_zero_or_one r with h | h
  · rw [h]; exact (sword_half s).1
  · rw [h]; exact (sword_half s).2

/-! ## A finite scale in a sum -/

theorem two_pos (n : Int) : (0 : ℝ) ≤ (2 : ℝ) ^ n := by positivity

theorem add_mul_two (a b : EReal) (n : Int) : (a + b) * two n = a * two n + b * two n := by
  unfold two
  rw [mul_comm, EReal.left_distrib_of_nonneg_of_ne_top (by exact_mod_cast two_pos n) (EReal.coe_ne_top _), mul_comm a, mul_comm b]

theorem sum_mul_two {ι : Type} (s : Finset ι) (f : ι → EReal) (n : Int) : (∑ i ∈ s, f i) * two n = ∑ i ∈ s, f i * two n := by
  classical
  induction s using Finset.induction_on with
  | empty => simp
  | insert a s ha ih => rw [Finset.sum_insert ha, Finset.sum_insert ha, add_mul_two, ih]

end Cert.Mx

end
-- ==== Proof.Spec.lean ====
/- What the two programs compute, as functions of plain indices: the shared exponents, the codes and scale bytes of the
   activations, and the product with the dequantised weights. -/
module

public import proofs.«01_k».proof.Proof.Decode

@[expose] public section

noncomputable section

namespace Cert.Mx

open Idealize.ShloMosaic

/-! ## The arguments by plain indices -/

/-- The activations by token and position. -/
def xIn (a : (⟨3, ![64, 1, 4608]⟩ : Shape).Idx → EReal) (t : Fin 64) (j : Fin 4608) : EReal := a (ix3 t 0 j)

/-- The weight codes by row and position. -/
def wIn (a : (⟨2, ![8192, 4608]⟩ : Shape).Idx → EReal) (n : Fin 8192) (j : Fin 4608) : EReal := a (ix2 n j)

/-- The weight scale bytes by row and block. -/
def sIn (a : (⟨2, ![8192, 144]⟩ : Shape).Idx → BitVec 8) (n : Fin 8192) (g : Fin 144) : BitVec 8 := a (ix2 n g)

/-- The bias by row. -/
def bIn (a : (⟨1, ![8192]⟩ : Shape).Idx → EReal) (n : Fin 8192) : EReal := a (ix1 n)

/-! ## The results -/

variable (X : Fin 64 → Fin 4608 → EReal)

/-- The largest magnitude of block `g` of token `t`. -/
def amax (t : Fin 64) (g : Fin 144) : EReal :=
  Finset.fold max (Ideal.ofBits .f32 0xFF800000#32)
    (fun k : Fin 32 => FloatOps.absf (F := Ideal) (φ := .f32) (X t ⟨g.val * 32 + k.val, by omega⟩)) Finset.univ

/-- The shared exponent of the block. -/
def ex (t : Fin 64) (g : Fin 144) : Int := E (amax X t g * Ideal.ofBits .f32 0x3B124925#32)

/-- The block that a position belongs to. -/
def blk (j : Fin 4608) : Fin 144 := ⟨j.val / 32, by omega⟩

/-- The code at a position: the activation over its scale, clipped to the range of the format. -/
def code (t : Fin 64) (j : Fin 4608) : EReal :=
  min (Ideal.ofBits .f32 0x43E00000#32) (max (Ideal.ofBits .f32 0xC3E00000#32) (X t j * two (-(ex X t (blk j)))))

/-- The exponent of a weight scale. -/
def wx (S : Fin 8192 → Fin 144 → BitVec 8) (n : Fin 8192) (g : Fin 144) : Int := ((S n g).toNat : Int) - 127

/-- One result: the bias and the sum over all positions of the products of the dequantised values. -/
def out (W : Fin 8192 → Fin 4608 → EReal) (S : Fin 8192 → Fin 144 → BitVec 8) (B : Fin 8192 → EReal) (t : Fin 64) (n : Fin 8192) : EReal :=
  B n + ∑ j : Fin 4608, code X t j * two (ex X t (blk j)) * (W n j * two (wx S n (blk j)))

theorem ex_bounds (t : Fin 64) (g : Fin 144) : -127 ≤ ex X t g ∧ ex X t g ≤ 127 := E_bounds _

/-! ## Sums by blocks -/

/-- A sum over `a * b` positions is the sum over `a` blocks of the sums of their `b` positions. -/
theorem sum_blocks {a b n : ℕ} (h : a * b = n) (f : Fin n → EReal) :
    ∑ j : Fin n, f j = ∑ g : Fin a, ∑ k : Fin b, f ⟨g.val * b + k.val, by
      have := Nat.mul_le_mul_right b (Nat.succ_le_of_lt g.isLt); have := k.isLt; rw [Nat.succ_mul] at *; omega⟩ := by
  subst h
  rw [← Fintype.sum_prod_type', ← finProdFinEquiv.sum_comp]
  refine Finset.sum_congr rfl fun p _ => congrArg f (Fin.ext ?_)
  show p.2.val + b * p.1.val = p.1.val * b + p.2.val
  rw [Nat.mul_comm, Nat.add_comm]

/-- The result by blocks of thirty-two, the scales applied to the sum of each block. -/
theorem out_blocks (W : Fin 8192 → Fin 4608 → EReal) (S : Fin 8192 → Fin 144 → BitVec 8) (B : Fin 8192 → EReal) (t : Fin 64) (n : Fin 8192) :
    (∑ g : Fin 144, (∑ k : Fin 32, code X t ⟨g.val * 32 + k.val, by omega⟩ * W n ⟨g.val * 32 + k.val, by omega⟩)
      * two (ex X t g) * two (wx S n g)) + B n = out X W S B t n := by
  unfold out
  rw [add_comm, sum_blocks (a := 144) (b := 32) rfl]
  refine congrArg (B n + ·) (Finset.sum_congr rfl fun g _ => ?_)
  rw [sum_mul_two, sum_mul_two]
  refine Finset.sum_congr rfl fun k _ => ?_
  have hb : blk ⟨g.val * 32 + k.val, by omega⟩ = g := Fin.ext (by show (g.val * 32 + k.val) / 32 = g.val; omega)
  rw [hb]
  rw [mul_assoc, mul_assoc, mul_assoc, mul_left_comm (W n _)]

end Cert.Mx

end
-- ==== Proof.Quant.lean ====
/- The kernel's quantiser at an index: the exponents, the scale bytes, the codes and the dequantised activations of the
   first run, in the terms of Spec.lean. -/
module

public import proofs.«01_k».proof.Proof.Chunk
public import proofs.«01_k».proof.Proof.Spec
public import Idealize.ShloMosaic.Lib.Pointwise

@[expose] public section

set_option maxRecDepth 16384

noncomputable section

namespace Cert.KernelIdeal.Hand

open Cert.KernelIdeal Cert.KernelIdeal.Gen
open Idealize.ShloMosaic

/-- One step of the search on whole vectors. -/
def stepV (v : FVec Ideal S144x64 .f32) (s : BitVec 32) (f : IVec S144x64 32) : IVec S144x64 32 :=
  select (cmpf .oge v (bitcastToFloat .f32 (shli (addi f (broadcast S144x64 s)) (broadcast S144x64 23#32)))) (addi f (broadcast S144x64 s)) f

theorem stepV_read (v : FVec Ideal S144x64 .f32) (s : BitVec 32) (f : IVec S144x64 32) (i : S144x64.Idx) :
    stepV v s f i = Mx.fieldStep (v i) s (f i) := (rfl)

theorem pay8_eq (x : Vec Ideal S64x4608 .bf16) : k0_pay8 x =
    stepV (k0_pay6 x) 32#32 (stepV (k0_pay6 x) 64#32 (stepV (k0_pay6 x) 128#32 (broadcast S144x64 0#32))) := by
  unfold k0_pay8 stepV
  rfl

theorem pay8_read (x : Vec Ideal S64x4608 .bf16) (i : S144x64.Idx) : k0_pay8 x i =
    Mx.fieldStep (k0_pay6 x i) 32#32 (Mx.fieldStep (k0_pay6 x i) 64#32 (Mx.fieldStep (k0_pay6 x i) 128#32 0#32)) := by
  rw [pay8_eq, stepV_read, stepV_read, stepV_read]; rfl

theorem pay11_read (a r v : FVec Ideal S144x64 .f32) (x2 f : IVec S144x64 32) (i : S144x64.Idx) :
   k0_pay11 a r v x2 f (addi f (broadcast S144x64 16#32)) (shli (addi f (broadcast S144x64 16#32)) (broadcast S144x64 23#32)) i =
    Scalar.select (Ideal.cmp .oeq (a i) (Ideal.ofBits .f32 0x00000000#32)) 0#32
    (Scalar.select (IntOp.andi (Ideal.cmp .ogt (r i) (Ideal.ofBits .f32 0x00000000#32)) (Ideal.cmp .olt (r i) (Ideal.ofBits .f32 0x7F800000#32)))
      (IntOp.subi (IntOp.addi (x2 i)
        (Mx.fieldStep (v i) 1#32 (Mx.fieldStep (v i) 2#32 (Mx.fieldStep (v i) 4#32 (Mx.fieldStep (v i) 8#32 (Mx.fieldStep (v i) 16#32 (f i))))))) 126#32) 0#32) := (rfl)
theorem pay6_read (x : Vec Ideal S64x4608 .bf16) (i : S144x64.Idx) : k0_pay6 x i = Scalar.select (Ideal.cmp .olt (k0_pay4 x i) (Ideal.ofBits .f32 0x00800000#32)) (k0_pay4 x i * Ideal.ofBits .f32 0x4B000000#32) (k0_pay4 x i) := by
  unfold k0_pay6 k0_pay5; generalize k0_pay4 x = r; rfl
theorem pay7_read (x : Vec Ideal S64x4608 .bf16) (i : S144x64.Idx) : k0_pay7 x i = Scalar.select (Ideal.cmp .olt (k0_pay4 x i) (Ideal.ofBits .f32 0x00800000#32)) 4294967273#32 0#32 := by
  unfold k0_pay7 k0_pay5; generalize k0_pay4 x = r; rfl

theorem e0_read (x : Vec Ideal S64x4608 .bf16) (i : S144x64.Idx) : e0Of x i = Mx.kexpRaw (k0_pay3 x i) (k0_pay4 x i) := by
  have h : e0Of x i = _ := pay11_read (k0_pay3 x) (k0_pay4 x) (k0_pay6 x) (k0_pay7 x) (k0_pay8 x) i
  rw [h, pay8_read, pay7_read, pay6_read]
  unfold Mx.kexpRaw Mx.field
  rfl

/-- The activations by token and position. -/
def xf (x : Vec Ideal S64x4608 .bf16) (t : Fin 64) (j : Fin 4608) : EReal := x (ix2 t j)

theorem pay3_read (x : Vec Ideal S64x4608 .bf16) (t : Fin 64) (g : Fin 144) : k0_pay3 (F := Ideal) x (ix2 g t) = Mx.amax (xf x) t g := by
  pointwise [k0_pay3, k0_pay2]
  rfl

theorem pay4_read (x : Vec Ideal S64x4608 .bf16) (i : S144x64.Idx) : k0_pay4 (F := Ideal) x i = k0_pay3 (F := Ideal) x i * Ideal.ofBits .f32 0x3B124925#32 := by
  unfold k0_pay4; generalize k0_pay3 x = a; rfl

/-- The clipped exponents. -/
theorem e_read (x : Vec Ideal S64x4608 .bf16) (t : Fin 64) (g : Fin 144) :
    k0_pay12 (e0Of (F := Ideal) x) 4294967169#32 (ix2 g t) = BitVec.ofInt 32 (Mx.ex (xf x) t g) := by
  have h : k0_pay12 (e0Of (F := Ideal) x) 4294967169#32 (ix2 g t) = Mx.clip (e0Of (F := Ideal) x (ix2 g t)) := by
    generalize e0Of (F := Ideal) x = e; rfl
  rw [h, e0_read, pay4_read, pay3_read, Mx.kexp_eq (fun h => by rw [h, zero_mul])]
  rfl

/-- The scale bytes. -/
theorem xs_read (x : Vec Ideal S64x4608 .bf16) (t : Fin 64) (g : Fin 144) :
    xsOf (F := Ideal) x (ix2 t g) = Mx.byte (Mx.ex (xf x) t g) := by
  pointwise [xsOf, k0_pay18]
  rw [e_read]
  rfl

theorem pay2_read (x : Vec Ideal S64x4608 .bf16) (t : Fin 64) (g : Fin 144) (k : Fin 32) :
    k0_pay2 (F := Ideal) x (ix3 g k t) = xf x t ⟨g.val * 32 + k.val, by omega⟩ := by
  pointwise [k0_pay2]
  rfl

/-- The codes. -/
theorem xc_read (x : Vec Ideal S64x4608 .bf16) (t : Fin 64) (j : Fin 4608) :
    xcOf (F := Ideal) x (ix2 t j) = Mx.code (xf x) t j := by
  have hb := Mx.ex_bounds (xf x) t (Mx.blk j)
  pointwise [xcOf, k0_pay16, k0_pay13]
  rw [e_read, pay2_read]
  have hj : (⟨j.val / 32 * 32 + j.val % 32, by omega⟩ : Fin 4608) = j := Fin.ext (by show j.val / 32 * 32 + j.val % 32 = j.val; omega)
  simp only [hj]
  have h := Mx.ldexpW_eq (z := -(Mx.ex (xf x) t (Mx.blk j))) (by omega) (by omega)
  rw [← Mx.sub_neg hb.1 hb.2] at h
  unfold Mx.code
  rw [← h]
  rfl

theorem pay14_read (x : Vec Ideal S64x4608 .bf16) (t : Fin 64) (j : Fin 4608) :
    k0_pay14 (F := Ideal) (k0_pay2 x) (e0Of x) 4294967169#32 (ix3 (Mx.blk j) ⟨j.val % 32, by omega⟩ t) = Mx.code (xf x) t j := by
  rw [← xc_read]
  pointwise [xcOf, k0_pay16]
  rfl

/-- The dequantised activations. -/
theorem xd_read (x : Vec Ideal S64x4608 .bf16) (t : Fin 64) (j : Fin 4608) :
    xdOf (F := Ideal) x (ix2 t j) = Mx.code (xf x) t j * Mx.two (Mx.ex (xf x) t (Mx.blk j)) := by
  have hb := Mx.ex_bounds (xf x) t (Mx.blk j)
  rw [← pay14_read, ← Mx.ldexpW_eq hb.1 hb.2, ← e_read]
  pointwise [xdOf, k0_pay17, k0_pay15]
  rfl

end Cert.KernelIdeal.Hand

end
-- ==== Proof.Block.lean ====
/- The block of results that one run of the kernel stores, at an index: the bias and the sum over all contraction positions. -/
module

public import proofs.«01_k».proof.Proof.Quant

@[expose] public section

set_option maxRecDepth 16384

noncomputable section

namespace Cert.KernelIdeal.Hand

open Cert.KernelIdeal Cert.KernelIdeal.Gen
open Idealize.ShloMosaic

theorem bcast_row (v : Vec Ideal S1x512 .i32) (n : Fin 512) (i : S8x512.Idx) (hi : (i 1).val = n.val) :
    (broadcastTo S8x512 v broadcasts_S1x512_S8x512 : IVec S8x512 32) i = v (ix2 0 n) := by
  idx_vars i
  pointwise []
  have : i1 = n := Fin.ext hi
  rw [this]

/-- A row of scale words read as sixteen rows of bf16: every row is the scales. -/
theorem scRow_read (v : Vec Ideal S1x512 .i32) (p : Fin 16) (n : Fin 512) {s : BitVec 8} (h1 : 1 ≤ s.toNat) (h2 : s.toNat ≤ 254)
    (hv : v (ix2 0 n) = Mx.sword s) : scRow (F := Ideal) v (ix3 0 p n) = Mx.two ((s.toNat : Int) - 127) := by
  pointwise [scRow]
  rw [bitcast_32_16, ← Mx.ofBits_half h1 h2]
  refine congrArg (Ideal.ofBits .bf16) (Mx.half_any ?_ _)
  rw [← hv]
  exact bcast_row v n _ (bitcasts_S8x512_w32_S16x512_w16.srcIdx_other _ _ _ 1 (by decide))

/-- The eight scale rows of a chunk. -/
theorem scTile_read (r : Fin 8 → Vec Ideal S1x512 .i32) (j : Fin 8) (p : Fin 16) (n : Fin 512) :
    scTile (F := Ideal) (r 0) (r 1) (r 2) (r 3) (r 4) (r 5) (r 6) (r 7) (ix3 j p n) = scRow (r j) (ix3 0 p n) := by
  pointwise [scTile]
  match j with
  | 0 => rfl
  | 1 => rfl
  | 2 => rfl
  | 3 => rfl
  | 4 => rfl
  | 5 => rfl
  | 6 => rfl
  | 7 => rfl

theorem stRow_read (st : Vec Ideal S144x512 .i32) (g : ℕ) (hg : g < 144) (n : Fin 512) :
    stRow (F := Ideal) st g hg (ix2 0 n) = st (ix2 ⟨g, hg⟩ n) := by
  pointwise [stRow]

theorem chunk_read (acc : FVec Ideal S64x512 .f32) (w : Vec Ideal S512x256 .fp8e4m3) (s : FVec Ideal S8x16x512 .bf16)
    (xd : Vec Ideal S64x256 .bf16) (t : Fin 64) (n : Fin 512) : chunk acc w s xd (ix2 t n)
      = acc (ix2 t n) + ∑ k : Fin 256, xd (ix2 t k) * (w (ix2 n k) * s (ix3 ⟨k.val / 32, by omega⟩ ⟨k.val % 16, by omega⟩ n)) := by
  pointwise [chunk, wdTile, wTile]

/-- One chunk adds its 256 products. -/
theorem step_read (w : Vec Ideal S512x4608 .fp8e4m3) (ws : Vec Ideal S512x144 .i8) (xd : Vec Ideal S64x4608 .bf16)
    (c : ℕ) (hc : c < 18) (acc : FVec Ideal S64x512 .f32) (t : Fin 64) (n : Fin 512)
    (hs : ∀ g, 1 ≤ (ws (ix2 n g)).toNat ∧ (ws (ix2 n g)).toNat ≤ 254) :
    step (F := Ideal) w (k0_pay19 (F := Ideal) ws) xd c hc acc (ix2 t n) = acc (ix2 t n)
      + ∑ k : Fin 256, xd (ix2 t ⟨c * 256 + k.val, by omega⟩) * (w (ix2 n ⟨c * 256 + k.val, by omega⟩)
          * Mx.two (((ws (ix2 n (Mx.blk ⟨c * 256 + k.val, by omega⟩))).toNat : Int) - 127)) := by
  unfold step
  rw [chunk_read]
  refine congrArg (acc (ix2 t n) + ·) (Finset.sum_congr rfl fun k _ => ?_)
  have hk := k.isLt
  have h := scTile_read (fun j => stRow (k0_pay19 (F := Ideal) ws) (8 * c + j.val) (by omega)) ⟨k.val / 32, by omega⟩ ⟨k.val % 16, by omega⟩ n
  have h' : scTile (F := Ideal) (stRow (k0_pay19 (F := Ideal) ws) (8 * c) (by omega)) (stRow (k0_pay19 (F := Ideal) ws) (8 * c + 1) (by omega)) (stRow (k0_pay19 (F := Ideal) ws) (8 * c + 2) (by omega))
      (stRow (k0_pay19 (F := Ideal) ws) (8 * c + 3) (by omega)) (stRow (k0_pay19 (F := Ideal) ws) (8 * c + 4) (by omega)) (stRow (k0_pay19 (F := Ideal) ws) (8 * c + 5) (by omega))
      (stRow (k0_pay19 (F := Ideal) ws) (8 * c + 6) (by omega)) (stRow (k0_pay19 (F := Ideal) ws) (8 * c + 7) (by omega)) (ix3 ⟨k.val / 32, by omega⟩ ⟨k.val % 16, by omega⟩ n) = _ := h
  rw [h']
  have hg : (⟨8 * c + k.val / 32, by omega⟩ : Fin 144) = Mx.blk ⟨c * 256 + k.val, by omega⟩ :=
    Fin.ext (by show 8 * c + k.val / 32 = (c * 256 + k.val) / 32; omega)
  have hb := hs (Mx.blk ⟨c * 256 + k.val, by omega⟩)
  rw [scRow_read _ _ _ hb.1 hb.2 (by
    rw [stRow_read, hg]
    pointwise [k0_pay19]
    rfl)]
  have hp : (⟨256 * c + k.val, by omega⟩ : Fin 4608) = ⟨c * 256 + k.val, by omega⟩ := Fin.ext (by show 256 * c + k.val = c * 256 + k.val; omega)
  have hx : (View.ld (Val := Elt Ideal) (e' := .bf16) xd (Rect.unit ![0, 256 * c] S64x256.size (inb_x c hc))) (ix2 t k) = xd (ix2 t ⟨c * 256 + k.val, by omega⟩) := by
    pointwise []
    rw [hp]
  have hw : (View.ld (Val := Elt Ideal) (e' := .fp8e4m3) w (Rect.unit ![0, 256 * c] S512x256.size (inb_w c hc))) (ix2 n k) = w (ix2 n ⟨c * 256 + k.val, by omega⟩) := by
    pointwise []
    rw [hp]
  rw [hx, hw]

/-- The accumulator after `N` chunks: the bias and the products of the chunks so far. -/
theorem acc_read (w : Vec Ideal S512x4608 .fp8e4m3) (ws : Vec Ideal S512x144 .i8) (xd : Vec Ideal S64x4608 .bf16)
    (b : Vec Ideal S1x512 .f32) (t : Fin 64) (n : Fin 512)
    (hs : ∀ g, 1 ≤ (ws (ix2 n g)).toNat ∧ (ws (ix2 n g)).toNat ≤ 254) (N : ℕ) (hN : N ≤ 18) :
    accN (F := Ideal) w (k0_pay19 (F := Ideal) ws) xd b N hN (ix2 t n) = b (ix2 0 n)
      + ∑ c : Fin N, ∑ k : Fin 256, xd (ix2 t ⟨c.val * 256 + k.val, by omega⟩) * (w (ix2 n ⟨c.val * 256 + k.val, by omega⟩)
          * Mx.two (((ws (ix2 n (Mx.blk ⟨c.val * 256 + k.val, by omega⟩))).toNat : Int) - 127)) := by
  induction N with
  | zero =>
    rw [Fin.sum_univ_zero, add_zero]
    show k0_pay20 (F := Ideal) b (ix2 t n) = _
    pointwise [k0_pay20]
  | succ N ih =>
    rw [Fin.sum_univ_castSucc, ← add_assoc]
    show step (F := Ideal) w (k0_pay19 (F := Ideal) ws) xd N hN _ (ix2 t n) = _
    rw [step_read _ _ _ _ _ _ _ _ hs, ih (by omega)]
    rfl

/-- The stored block. -/
theorem y_read (w : Vec Ideal S512x4608 .fp8e4m3) (ws : Vec Ideal S512x144 .i8) (xd : Vec Ideal S64x4608 .bf16)
    (b : Vec Ideal S1x512 .f32) (t : Fin 64) (n : Fin 512)
    (hs : ∀ g, 1 ≤ (ws (ix2 n g)).toNat ∧ (ws (ix2 n g)).toNat ≤ 254) :
    yOf (F := Ideal) w ws xd b (ix2 t n) = b (ix2 0 n)
      + ∑ j : Fin 4608, xd (ix2 t j) * (w (ix2 n j) * Mx.two (((ws (ix2 n (Mx.blk j))).toNat : Int) - 127)) := by
  rw [Mx.sum_blocks (a := 18) (b := 256) rfl]
  refine Eq.trans ?_ (acc_read w ws xd b t n hs 18 (Nat.le_refl _))
  rw [← acc18_eq]
  unfold yOf
  generalize acc18 w (k0_pay19 (F := Ideal) ws) xd b = a
  rfl

end Cert.KernelIdeal.Hand

end
-- ==== Proof.KernelValue.lean ====
/- What the kernel's three result arrays hold after the run, in the terms of Spec.lean. -/
module

public import proofs.«01_k».proof.Proof.Block
public import proofs.«01_k».proof.Proof.Hand
public import Idealize.ShloMosaic.Lib.Pipeline.ValueKit
public import Idealize.ShloMosaic.Lib.StableHlo.ReadAt

@[expose] public section

set_option maxRecDepth 16384

noncomputable section

namespace Cert.KernelIdeal.Hand

open Cert.KernelIdeal Cert.KernelIdeal.Gen
open Idealize.ShloMosaic Idealize.SL.Sem Idealize.ShloMosaic.TcCoe
open Idealize.ShloMosaic.Pipeline (Dat Cfg Window)

variable (m : (ℓ : Loc nD τ sig) → Buf (Elt Ideal) ℓ)

/-! ## The arguments -/

/-- The activations, weight codes, weight scales and bias of device `c` by plain indices. -/
abbrev X (c : Dev nD) := Mx.xIn (m ((c : Thread nD τ).loc main_arg0))
@[inherit_doc X] abbrev W (c : Dev nD) := Mx.wIn (m ((c : Thread nD τ).loc main_arg1))
@[inherit_doc X] abbrev S (c : Dev nD) := Mx.sIn (m ((c : Thread nD τ).loc main_arg2))
@[inherit_doc X] abbrev B (c : Dev nD) := Mx.bIn (m ((c : Thread nD τ).loc main_arg3))

/-- The precondition: no weight scale is 0 or 255. -/
def Decodable (c : Dev nD) : Prop := ∀ n g, 1 ≤ (S m c n g).toNat ∧ (S m c n g).toNat ≤ 254

theorem v0_read (c : Dev nD) (t : Fin 64) (j : Fin 4608) : V m c main_v0 (ix2 t j) = X m c t j := by
  unfold V
  after_reads_at
  rfl

theorem v1_read (c : Dev nD) (n : Fin 8192) : V m c main_v1 (ix2 0 n) = B m c n := by
  unfold V
  after_reads_at
  rfl

/-! ## The blocks of a grid point -/

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem xin_read (c : Dev nD) (t : Fin 64) (j : Fin 4608) : xin m c (ix2 t j) = X m c t j := by
  rw [← v0_read]
  unfold xin
  blk_simp [iblk]
  refine congrArg (V m c main_v0) ?_
  blk_ext [idx0]

theorem xf_xin (c : Dev nD) : xf (xin m c) = X m c := funext fun t => funext fun j => xin_read m c t j

theorem w_read (c : Dev nD) (t : Fin cfg0.N) (n : Fin 512) (j : Fin 4608) (n' : Fin 8192) (hn : n'.val = t.val * 512 + n.val) :
    iblk m c 1 t (ix2 n j) = W m c n' j := by
  show _ = m ((c : Thread nD τ).loc main_arg1) (ix2 n' j)
  rw [← V_main_arg1 m c]
  blk_simp [iblk]
  refine congrArg (V m c main_arg1) ?_
  blk_ext [idx1]

theorem s_read (c : Dev nD) (t : Fin cfg0.N) (n : Fin 512) (g : Fin 144) (n' : Fin 8192) (hn : n'.val = t.val * 512 + n.val) :
    iblk m c 2 t (ix2 n g) = S m c n' g := by
  show _ = m ((c : Thread nD τ).loc main_arg2) (ix2 n' g)
  rw [← V_main_arg2 m c]
  blk_simp [iblk]
  refine congrArg (V m c main_arg2) ?_
  blk_ext [idx2]

theorem b_read (c : Dev nD) (t : Fin cfg0.N) (n : Fin 512) (n' : Fin 8192) (hn : n'.val = t.val * 512 + n.val) :
    iblk m c 3 t (ix2 0 n) = B m c n' := by
  rw [← v1_read]
  blk_simp [iblk]
  refine congrArg (V m c main_v1) ?_
  blk_ext [idx3]

/-- The block of results of a point, at an index. -/
theorem yAt_read (c : Dev nD) (hs : Decodable m c) (t : Fin cfg0.N) (i : Fin 64) (n : Fin 512) (n' : Fin 8192) (hn : n'.val = t.val * 512 + n.val) :
    yAt m c t (ix2 i n) = Mx.out (X m c) (W m c) (S m c) (B m c) i n' := by
  unfold yAt
  rw [y_read _ _ _ _ i n (fun g => by rw [s_read m c t n g n' hn]; exact hs n' g), b_read m c t n n' hn]
  unfold Mx.out
  refine congrArg (B m c n' + ·) (Finset.sum_congr rfl fun j _ => ?_)
  rw [xd_read, xf_xin, w_read m c t n j n' hn, s_read m c t n _ n' hn]
  rfl

/-! ## The result arrays -/

/-- The three result arrays as functions of the arguments. -/
def yG (c : Dev nD) : S64x8192.Idx → EReal := fun i => Mx.out (X m c) (W m c) (S m c) (B m c) (i 0) (i 1)
@[inherit_doc yG] def cG (c : Dev nD) : S64x4608.Idx → EReal := fun i => Mx.code (X m c) (i 0) (i 1)
@[inherit_doc yG] def sG (c : Dev nD) : S64x144.Idx → BitVec 8 := fun i => Mx.byte (Mx.ex (X m c) (i 0) (i 1))

theorem xcOf_eq (c : Dev nD) : xcOf (xin m c) = cG m c := by
  funext i
  idx_vars i
  rw [xc_read, xf_xin]
  rfl

theorem xsOf_eq (c : Dev nD) : xsOf (xin m c) = sG m c := by
  funext i
  idx_vars i
  rw [xs_read, xf_xin]
  rfl

theorem final5 (c : Dev nD) : (dats m 0 c).arrAt 5 cfg0.N = cG m c := by
  rw [← xcOf_eq]
  refine (dats m 0 c).arrAt_eq_of_covers 5 _ (by decide +kernel) fun t hf y => ?_
  blk_simp
  rw [after5]
  refine congrArg (xcOf (xin m c)) ?_
  blk_ext [idx5]

theorem final6 (c : Dev nD) : (dats m 0 c).arrAt 6 cfg0.N = sG m c := by
  rw [← xsOf_eq]
  refine (dats m 0 c).arrAt_eq_of_covers 6 _ (by decide +kernel) fun t hf y => ?_
  blk_simp
  rw [after6]
  refine congrArg (xsOf (xin m c)) ?_
  blk_ext [idx6]

theorem yG_block (c : Dev nD) (hs : Decodable m c) (t : Fin cfg0.N) (y : S64x512.Idx) (i : S64x8192.Idx)
    (h0 : (i 0).val = (y 0).val) (h1 : (i 1).val = t.val * 512 + (y 1).val) : yAt m c t y = yG m c i := by
  idx_vars y
  rw [yAt_read m c hs t _ _ (i 1) h1]
  unfold yG
  rw [show i 0 = y0 from Fin.ext h0]

theorem final4 (c : Dev nD) (hs : Decodable m c) : (dats m 0 c).arrAt 4 cfg0.N = yG m c := by
  refine (dats m 0 c).arrAt_eq_of_covers 4 _ (by decide +kernel) fun t hf y => ?_
  blk_simp
  rw [after4]
  refine yG_block m c hs t y _ ?_ ?_
  · blk_simp [idx4]
  · blk_simp [idx4]

/-- The run: the three results as functions of the arguments, which end unchanged. -/
theorem run_value (ρ : Dev nD → PrngReg) (hs : ∀ c, Decodable m c) :
    θ_run defs (onTc (τ := τ) (main (F := Ideal))) ⟨m, fun _ => 0, ρ⟩ (fun r => ∀ c : Dev nD,
      r.2.mem ((c.tc : Thread nD τ).loc main_v2_0) = yG m c
      ∧ r.2.mem ((c.tc : Thread nD τ).loc main_v2_1) = cG m c
      ∧ r.2.mem ((c.tc : Thread nD τ).loc main_v2_2) = sG m c) := by
  refine (θ_run defs _ _).mono (fun r h c => ?_) (run_main m ρ)
  exact ⟨((h c).1 4).trans (final4 m c (hs c)), ((h c).1 5).trans (final5 m c), ((h c).1 6).trans (final6 m c)⟩

end Cert.KernelIdeal.Hand

end
-- ==== Proof.RefReads.lean ====
/- What the reference's three results hold after the run, in the terms of Spec.lean. -/
module

public import proofs.«01_k».proof.Proof.Spec
public import proofs.«01_k».proof.Proof.Gen.ReferenceIdeal.Frame
public import Idealize.ShloMosaic.Lib.Pipeline.ValueKit
public import Idealize.ShloMosaic.Lib.StableHlo.ReadAt

@[expose] public section

set_option maxRecDepth 16384

noncomputable section

namespace Cert.ReferenceIdeal.Hand

open Cert.ReferenceIdeal Cert.ReferenceIdeal.Gen
open Idealize.ShloMosaic Idealize.SL.Sem Idealize.ShloMosaic.TcCoe
open Idealize.ShloMosaic.Pipeline (Dat Cfg Window)

variable (m : (ℓ : Loc nD τ sig) → Buf (Elt Ideal) ℓ)

/-- The activations, weight codes, weight scales and bias of device `c` by plain indices. -/
abbrev X (c : Dev nD) := Mx.xIn (m ((c : Thread nD τ).loc main_arg0))
@[inherit_doc X] abbrev W (c : Dev nD) := Mx.wIn (m ((c : Thread nD τ).loc main_arg1))
@[inherit_doc X] abbrev S (c : Dev nD) := Mx.sIn (m ((c : Thread nD τ).loc main_arg2))
@[inherit_doc X] abbrev B (c : Dev nD) := Mx.bIn (m ((c : Thread nD τ).loc main_arg3))

/-! ## Before the call of the casts -/

/-- The clipped exponents. -/
theorem v31_read (c : Dev nD) (t : Fin 64) (g : Fin 144) : V m c main_v31 (ix2 t g) = BitVec.ofInt 32 (Mx.ex (X m c) t g) := by
  unfold Mx.ex
  rw [← Mx.rexp_eq (a := Mx.amax (X m c) t g) (fun h => by rw [h, zero_mul])]
  unfold V
  after_reads_at
  rfl

/-- The clipped scaled values. -/
theorem v40_read (c : Dev nD) (t : Fin 64) (j : Fin 4608) : V m c main_v40 (ix2 t j) = Mx.code (X m c) t j := by
  have hb := Mx.ex_bounds (X m c) t (Mx.blk j)
  have hE : Mx.clip (Mx.rexpRaw (Mx.amax (X m c) t (Mx.blk j)) (Mx.amax (X m c) t (Mx.blk j) * Ideal.ofBits .f32 0x3B124925#32)) = BitVec.ofInt 32 (Mx.ex (X m c) t (Mx.blk j)) :=
    Mx.rexp_eq (fun h => by rw [h, zero_mul])
  have hj : (⟨j.val / 32 * 32 + j.val % 32, by omega⟩ : Fin 4608) = j := Fin.ext (by show j.val / 32 * 32 + j.val % 32 = j.val; omega)
  unfold Mx.code
  rw [← Mx.pow_word (Mx.toInt_neg hb.1 hb.2), ← Mx.negi_eq hb.1 hb.2, ← hE]
  unfold V
  after_reads_at
  simp only [hj]
  rfl

end Cert.ReferenceIdeal.Hand

end
-- ==== Proof.RefValue.lean ====
/- What the reference's three results hold after the run, in the terms of Spec.lean. -/
module

public import proofs.«01_k».proof.Proof.RefReads

@[expose] public section

set_option maxRecDepth 16384

noncomputable section

namespace Cert.ReferenceIdeal.Hand

open Cert.ReferenceIdeal Cert.ReferenceIdeal.Gen
open Idealize.ShloMosaic Idealize.SL.Sem Idealize.ShloMosaic.TcCoe
open Idealize.ShloMosaic.Pipeline (Dat Cfg Window)

variable (m : (ℓ : Loc nD τ sig) → Buf (Elt Ideal) ℓ)

/-! ## The call of the casts -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

/-- The arrays that the call returns as functions of the arguments: the codes, the scale bytes, the codes again as f32,
    the weight codes as f32. -/
def cG (c : Dev nD) : S64x4608.Idx → EReal := fun i => Mx.code (X m c) (i 0) (i 1)
@[inherit_doc cG] def sG (c : Dev nD) : S64x144.Idx → BitVec 8 := fun i => Mx.byte (Mx.ex (X m c) (i 0) (i 1))
@[inherit_doc cG] def wG (c : Dev nD) : S8192x4608.Idx → EReal := fun i => W m c (i 0) (i 1)

theorem cG_eq (c : Dev nD) : V m c main_v40 = cG m c := by
  funext i
  idx_vars i
  rw [v40_read]
  rfl

theorem v31_eq (c : Dev nD) : V m c main_v31 = fun i : S64x144.Idx => BitVec.ofInt 32 (Mx.ex (X m c) (i 0) (i 1)) := by
  funext i
  idx_vars i
  rw [v31_read]

theorem wG_eq (c : Dev nD) : V m c main_arg1 = wG m c := by
  rw [V_main_arg1]
  funext i
  idx_vars i
  rfl

theorem pay1_read (x : Vec Ideal S64x4608 .f32) (y : S64x4608.Idx) : k0_pay1 (F := Ideal) x y = x y := by
  idx_vars y
  pointwise [k0_pay1]

theorem pay2_read (x : Vec Ideal S64x144 .i32) (y : S64x144.Idx) : k0_pay2 (F := Ideal) x y = BitVec.setWidth 8 (IntOp.addi (x y) 127#32) := by
  idx_vars y
  pointwise [k0_pay2]

theorem pay3_read (x : Vec Ideal S64x4608 .f32) (y : S64x4608.Idx) : k0_pay3 (F := Ideal) x y = x y := by
  idx_vars y
  pointwise [k0_pay3]
  exact pay1_read x _

theorem pay4_read (x : Vec Ideal S8192x4608 .fp8e4m3) (y : S8192x4608.Idx) : k0_pay4 (F := Ideal) x y = x y := by
  idx_vars y
  pointwise [k0_pay4]

theorem blk0_3 (A : S64x4608.Idx → EReal) (t : Fin cfg0.N) (y : S64x4608.Idx) :
    View.read (Elt Ideal) ((cfg0.win 0).blk t).view A y = A ((win0_3.blk t).view.emb y) := by
  blk_simp
  refine congrArg A ?_
  blk_ext [idx0, idx3]

theorem final3 (c : Dev nD) : (dats m 0 c).arrAt 3 cfg0.N = cG m c := by
  refine (dats m 0 c).arrAt_eq_of_covers 3 _ (by decide +kernel) fun t hf y => ?_
  blk_simp
  rw [after0_3]
  frame_out
  refine (pay1_read _ _).trans ?_
  change View.read (Elt Ideal) ((cfg0.win 0).blk t).view (V m c main_v40) y = cG m c ((win0_3.blk t).view.emb y)
  rw [cG_eq]
  exact blk0_3 _ t y

theorem final4 (c : Dev nD) : (dats m 0 c).arrAt 4 cfg0.N = sG m c := by
  refine (dats m 0 c).arrAt_eq_of_covers 4 _ (by decide +kernel) fun t hf y => ?_
  blk_simp
  rw [after0_4]
  frame_out
  refine (pay2_read _ _).trans ?_
  blk_simp [iblk]
  have h : sG m c = fun i => BitVec.setWidth 8 (IntOp.addi (V m c main_v31 i) 127#32) := by rw [v31_eq]; rfl
  rw [h]
  refine congrArg (fun i => BitVec.setWidth 8 (IntOp.addi (V m c main_v31 i) 127#32)) ?_
  blk_ext [idx1, idx4]

theorem blk0_5 (A : S64x4608.Idx → EReal) (t : Fin cfg0.N) (y : S64x4608.Idx) :
    View.read (Elt Ideal) ((cfg0.win 0).blk t).view A y = A ((win0_5.blk t).view.emb y) := by
  blk_simp
  refine congrArg A ?_
  blk_ext [idx0, idx5]

theorem final5 (c : Dev nD) : (dats m 0 c).arrAt 5 cfg0.N = cG m c := by
  refine (dats m 0 c).arrAt_eq_of_covers 5 _ (by decide +kernel) fun t hf y => ?_
  blk_simp
  rw [after0_5]
  frame_out
  refine (pay3_read _ _).trans ?_
  change View.read (Elt Ideal) ((cfg0.win 0).blk t).view (V m c main_v40) y = cG m c ((win0_5.blk t).view.emb y)
  rw [cG_eq]
  exact blk0_5 _ t y

theorem final6 (c : Dev nD) : (dats m 0 c).arrAt 6 cfg0.N = wG m c := by
  refine (dats m 0 c).arrAt_eq_of_covers 6 _ (by decide +kernel) fun t hf y => ?_
  blk_simp
  rw [after0_6]
  frame_out
  rw [← wG_eq]
  refine (pay4_read _ _).trans ?_
  blk_simp [iblk]
  refine congrArg (V m c main_arg1) ?_
  blk_ext [idx2, idx6]

/-! ## After the call -/

/-- The buffers when the call returns. -/
abbrev Z (c : Dev nD) := Pipeline.withArrays (cfgs 0).spec c (V0 m c) (fun w => (dats m 0 c).arrAt w (cfgs 0).N)

theorem hinj : Function.Injective (Pipeline.arrRef spec0) := by decide

theorem Z_v41_1 (c : Dev nD) : Z m c (Proc.tc.devRef main_v41_1) = sG m c :=
  (Pipeline.withArrays_arr spec0 hinj c (V0 m c) (fun w => (dats m 0 c).arrAt w (cfgs 0).N) 4).trans (final4 m c)

theorem Z_v41_2 (c : Dev nD) : Z m c (Proc.tc.devRef main_v41_2) = cG m c :=
  (Pipeline.withArrays_arr spec0 hinj c (V0 m c) (fun w => (dats m 0 c).arrAt w (cfgs 0).N) 5).trans (final5 m c)

theorem Z_v41_3 (c : Dev nD) : Z m c (Proc.tc.devRef main_v41_3) = wG m c :=
  (Pipeline.withArrays_arr spec0 hinj c (V0 m c) (fun w => (dats m 0 c).arrAt w (cfgs 0).N) 6).trans (final6 m c)

theorem Z_arg2 (c : Dev nD) : Z m c (Proc.tc.devRef main_arg2) = m ((c : Thread nD τ).loc main_arg2) :=
  (Pipeline.withArrays_of_ne spec0 c (V0 m c) _ main_arg2 (by exact (by decide : ∀ w, Pipeline.arrRef spec0 w ≠ main_arg2))).trans (V_main_arg2 m c)

theorem Z_arg3 (c : Dev nD) : Z m c (Proc.tc.devRef main_arg3) = m ((c : Thread nD τ).loc main_arg3) :=
  (Pipeline.withArrays_of_ne spec0 c (V0 m c) _ main_arg3 (by exact (by decide : ∀ w, Pipeline.arrRef spec0 w ≠ main_arg3))).trans (V_main_arg3 m c)

theorem v69_read (c : Dev nD) (t : Fin 64) (n : Fin 8192) :
    Pipeline.afterTail₀ cfgs (dats m) 0 (V0 m) [hostOps1] c main_v69 (ix2 t n) = Mx.out (X m c) (W m c) (S m c) (B m c) t n := by
  have key : ∀ (z1 : S64x144.Idx → BitVec 8) (z2 : S64x4608.Idx → EReal) (z3 : S8192x4608.Idx → EReal)
      (z4 : S8192x144.Idx → BitVec 8) (z5 : S8192.Idx → EReal), z1 = sG m c → z2 = cG m c → z3 = wG m c →
      z4 = m ((c : Thread nD τ).loc main_arg2) → z5 = m ((c : Thread nD τ).loc main_arg3) →
      (∑ g : Fin 144, (∑ k : Fin 32, z2 (ix2 t ⟨g.val * 32 + k.val, by omega⟩) * z3 (ix2 n ⟨g.val * 32 + k.val, by omega⟩))
        * Ideal.pow (Ideal.ofBits .f32 0x40000000#32) (FloatOps.sitofp (F := Ideal) .f32 (IntOp.subi (BitVec.setWidth 32 (z1 (ix2 t g))) 127#32))
        * Ideal.pow (Ideal.ofBits .f32 0x40000000#32) (FloatOps.sitofp (F := Ideal) .f32 (IntOp.subi (BitVec.setWidth 32 (z4 (ix2 n g))) 127#32)))
        + z5 (ix1 n) = Mx.out (X m c) (W m c) (S m c) (B m c) t n := by
    rintro _ _ _ _ _ rfl rfl rfl rfl rfl
    rw [← Mx.out_blocks]
    refine congrArg (· + B m c n) (Finset.sum_congr rfl fun g _ => ?_)
    have hb := Mx.ex_bounds (X m c) t g
    have hx := Mx.pow_word (Mx.toInt_byte hb.1 hb.2)
    have hw := Mx.pow_word (Mx.toInt_scale (S m c n g))
    unfold Mx.wx
    rw [← hx, ← hw]
    rfl
  unfold Pipeline.afterTail₀
  after_reads_at
  exact key _ _ _ _ _ (Z_v41_1 m c) (Z_v41_2 m c) (Z_v41_3 m c) (Z_arg2 m c) (Z_arg3 m c)

/-- The first result as a function of the arguments. -/
def yG (c : Dev nD) : S64x8192.Idx → EReal := fun i => Mx.out (X m c) (W m c) (S m c) (B m c) (i 0) (i 1)

theorem v69_eq (c : Dev nD) : Pipeline.afterTail₀ cfgs (dats m) 0 (V0 m) [hostOps1] c main_v69 = yG m c := by
  funext i
  idx_vars i
  exact v69_read m c _ _

/-- The run: the three results as functions of the arguments. -/
theorem run_value (ρ : Dev nD → PrngReg) :
    θ_run defs (onTc (τ := τ) (main (F := Ideal))) ⟨m, fun _ => 0, ρ⟩ (fun r => ∀ c : Dev nD,
      r.2.mem ((c.tc : Thread nD τ).loc main_v69) = yG m c
      ∧ r.2.mem ((c.tc : Thread nD τ).loc main_v41_0) = cG m c
      ∧ r.2.mem ((c.tc : Thread nD τ).loc main_v41_1) = sG m c) := by
  refine (θ_run defs _ _).mono (fun r h c => ?_) (run_main m ρ)
  exact ⟨((h c).2 main_v69 (Pipeline.mem_restRefs_of main_v69 (by decide) (by decide))).trans (v69_eq m c),
    ((h c).1 3).trans (final3 m c), ((h c).1 4).trans (final4 m c)⟩

end Cert.ReferenceIdeal.Hand

end
-- ==== Proof.Equal.lean ====
/- The algebraic claim: the kernel and the reference end with the same three results. -/
module

public import proofs.«01_k».proof.Defs
public import proofs.«01_k».proof.Proof.Hand
public import proofs.«01_k».proof.Proof.KernelValue
public import proofs.«01_k».proof.Proof.RefValue
public import Idealize.ShloMosaic.Lib.Claim

@[expose] public section

set_option maxRecDepth 16384

noncomputable section

namespace Cert.Proof

open Idealize.ShloMosaic Idealize.SL.Sem

/-- The precondition's one side condition: a scalar broadcasts to the scales' shape. -/
theorem facts_pre : Cert.Pre_decodable.Facts := ⟨by decide⟩

/-- Both comparisons of a scale byte being true, the byte is from 1 to 254. -/
theorem byte_bounds (s : BitVec 8) (h : IntOp.andi (IntOp.cmpi .uge s 1#8) (IntOp.cmpi .ule s 254#8) = 1#1) :
    1 ≤ s.toNat ∧ s.toNat ≤ 254 := by
  revert s
  decide +kernel

/-- The precondition says that every weight scale is from 1 to 254. -/
theorem decodable_of_pre (m : (ℓ : Loc Cert.KernelIdeal.nD Cert.KernelIdeal.τ Cert.KernelIdeal.sig) → Buf (Elt Ideal) ℓ)
    (h : Cert.Pre_KernelIdeal_decodable (hPre_decodable := facts_pre) m) (c : Dev Cert.KernelIdeal.nD) :
    Cert.KernelIdeal.Hand.Decodable m c :=
  fun n g => byte_bounds _ (congrFun (h c) (ix2 n g))

/-- From equal arguments that satisfy the precondition, all three results are equal, and the arguments are unchanged. -/
theorem algebraic : Cert.algebraic_KernelIdeal_ReferenceIdeal_pre_decodable (hKernelIdeal := Cert.KernelIdeal.Gen.facts)
    (hReferenceIdeal := Cert.ReferenceIdeal.Gen.facts) (hPre_decodable := facts_pre) := by
  intro m g m' g' hpre hargs
  refine ⟨fun c => Cert.KernelIdeal.Hand.yG m c, fun c => Cert.KernelIdeal.Hand.cG m c, fun c => Cert.KernelIdeal.Hand.sG m c, ?_, ?_⟩
  · refine (θ_run (Cert.KernelIdeal.defs (F := Ideal)) _ _).mono (fun r h c => ?_)
      (θ_run_and (Cert.KernelIdeal.Hand.run_value m g (decodable_of_pre m hpre)) (Cert.KernelIdeal.Hand.frame m g))
    exact ⟨(h.1 c).1, (h.1 c).2.1, (h.1 c).2.2, h.2.1 c⟩
  · refine (θ_run (Cert.ReferenceIdeal.defs (F := Ideal)) _ _).mono (fun r h c => ?_)
      (θ_run_and (Cert.ReferenceIdeal.Hand.run_value m' g') (Cert.ReferenceIdeal.Gen.frame m' g'))
    obtain ⟨h0, h1, h2, h3⟩ := hargs c
    have hX : Cert.ReferenceIdeal.Hand.X m' c = Cert.KernelIdeal.Hand.X m c := congrArg Mx.xIn h0
    have hW : Cert.ReferenceIdeal.Hand.W m' c = Cert.KernelIdeal.Hand.W m c := congrArg Mx.wIn h1
    have hS : Cert.ReferenceIdeal.Hand.S m' c = Cert.KernelIdeal.Hand.S m c := congrArg Mx.sIn h2
    have hB : Cert.ReferenceIdeal.Hand.B m' c = Cert.KernelIdeal.Hand.B m c := congrArg Mx.bIn h3
    refine ⟨(h.1 c).1.trans ?_, (h.1 c).2.1.trans ?_, (h.1 c).2.2.trans ?_, h.2.1 c⟩
    · unfold Cert.ReferenceIdeal.Hand.yG Cert.KernelIdeal.Hand.yG
      rw [hX, hW, hS, hB]
    · unfold Cert.ReferenceIdeal.Hand.cG Cert.KernelIdeal.Hand.cG
      rw [hX]
    · unfold Cert.ReferenceIdeal.Hand.sG Cert.KernelIdeal.Hand.sG
      rw [hX]

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Hand
public import proofs.«01_k».proof.Proof.Printed.Hand
public import proofs.«01_k».proof.Proof.Equal

@[expose] public section

noncomputable section

namespace Cert.Proof

open Idealize.ShloMosaic Idealize.SL.Sem

/-- All claims. The frames stated under the precondition hold without it. -/
theorem claim : Cert.Claim :=
  ⟨Cert.Kernel.Gen.facts, Cert.KernelIdeal.Gen.facts, Cert.ReferenceIdeal.Gen.facts, facts_pre,
    fun m ρ _ => Cert.Kernel.Hand.frame m ρ,
    fun m ρ _ => Cert.KernelIdeal.Hand.frame m ρ,
    fun m ρ _ => Cert.KernelIdeal.Hand.frame m ρ,
    fun m ρ _ => Cert.ReferenceIdeal.Gen.frame m ρ,
    fun m ρ _ => Cert.ReferenceIdeal.Gen.frame m ρ,
    trivial,
    algebraic⟩

end Cert.Proof

end
